-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_v54) = v2 c
          ∧ r.2.mem ((c.tc : Thread Cert.ReferenceIdeal.nD Cert.ReferenceIdeal.τ).loc Cert.ReferenceIdeal.main_v60) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x256x32x32 : Shape := ⟨4, ![4, 256, 32, 32]⟩
abbrev S8192x256 : Shape := ⟨2, ![8192, 256]⟩
abbrev S4096x8192 : Shape := ⟨2, ![4096, 8192]⟩
abbrev S_ : Shape := ⟨0, ![]⟩

class Facts : Prop where
  bcast_S_S4x256x32x32 : S_.BroadcastsInDim S4x256x32x32 (![] : Fin 0 → Fin S4x256x32x32.rank)
  bcast_S_S8192x256 : S_.BroadcastsInDim S8192x256 (![] : Fin 0 → Fin S8192x256.rank)
  bcast_S_S4096x8192 : S_.BroadcastsInDim S4096x8192 (![] : Fin 0 → Fin S4096x8192.rank)

variable [Facts]

def fn {F : FTy → Type} [FloatOps F] (main_arg0 : FVec F S4x256x32x32 .f32) (main_arg1 : FVec F S8192x256 .f32) (main_arg2 : FVec F S4096x8192 .f32) : IVec S4x256x32x32 1 × IVec S8192x256 1 × IVec S4096x8192 1 :=
  let main_v0 : FVec F S4x256x32x32 .f32 := Host.absf main_arg0
  let main_cst : FVec F S_ .f32 := constant S_ .f32 0x7F800000#32
  let main_v1 : FVec F S4x256x32x32 .f32 := broadcastInDim S4x256x32x32 ![] bcast_S_S4x256x32x32 main_cst
  let main_v2 : IVec S4x256x32x32 1 := cmpf .olt main_v0 main_v1
  let main_v3 : FVec F S8192x256 .f32 := Host.absf main_arg1
  let main_cst_0 : FVec F S_ .f32 := constant S_ .f32 0x7F800000#32
  let main_v4 : FVec F S8192x256 .f32 := broadcastInDim S8192x256 ![] bcast_S_S8192x256 main_cst_0
  let main_v5 : IVec S8192x256 1 := cmpf .olt main_v3 main_v4
  let main_v6 : FVec F S4096x8192 .f32 := Host.absf main_arg2
  let main_cst_1 : FVec F S_ .f32 := constant S_ .f32 0x7F800000#32
  let main_v7 : FVec F S4096x8192 .f32 := broadcastInDim S4096x8192 ![] bcast_S_S4096x8192 main_cst_1
  let main_v8 : IVec S4096x8192 1 := cmpf .olt main_v6 main_v7
  (main_v2, main_v5, main_v8)
-- ==== Kernel.lean ====
abbrev S4x256x32x32 : Shape := ⟨4, ![4, 256, 32, 32]⟩
abbrev S8192x256 : Shape := ⟨2, ![8192, 256]⟩
abbrev S4096x8192 : Shape := ⟨2, ![4096, 8192]⟩
abbrev S4x32x32x256 : Shape := ⟨4, ![4, 32, 32, 256]⟩
abbrev S4096x256 : Shape := ⟨2, ![4096, 256]⟩
abbrev S_ : Shape := ⟨0, ![]⟩
abbrev S8192x384 : Shape := ⟨2, ![8192, 384]⟩
abbrev S1 : Shape := ⟨1, ![1]⟩
abbrev S8192 : Shape := ⟨1, ![8192]⟩
abbrev S1x8192 : Shape := ⟨2, ![1, 8192]⟩
abbrev S4096 : Shape := ⟨1, ![4096]⟩
abbrev S4096x1 : Shape := ⟨2, ![4096, 1]⟩
abbrev S1x1 : Shape := ⟨2, ![1, 1]⟩
abbrev S4x32x32 : Shape := ⟨3, ![4, 32, 32]⟩
abbrev S128x1 : Shape := ⟨2, ![128, 1]⟩
abbrev S128x256 : Shape := ⟨2, ![128, 256]⟩
abbrev S128x8192 : Shape := ⟨2, ![128, 8192]⟩
abbrev S128 : Shape := ⟨1, ![128]⟩
abbrev S128x384 : Shape := ⟨2, ![128, 384]⟩
abbrev S1x128x1 : Shape := ⟨3, ![1, 128, 1]⟩
abbrev S1x1x1 : Shape := ⟨3, ![1, 1, 1]⟩

abbrev nBuf : Space → Nat
  | .hbm => 41
  | .vmem => 14
  | .smem => 0
  | _ => 0

abbrev bufTy : (tb : Table) → Fin (tcTables nBuf tb) → BufTy
  | .hbm, ⟨0, _⟩ => ⟨S4x256x32x32, .f32⟩
  | .hbm, ⟨1, _⟩ => ⟨S8192x256, .f32⟩
  | .hbm, ⟨2, _⟩ => ⟨S4096x8192, .f32⟩
  | .hbm, ⟨3, _⟩ => ⟨S4x32x32x256, .f32⟩
  | .hbm, ⟨4, _⟩ => ⟨S4096x256, .f32⟩
  | .hbm, ⟨5, _⟩ => ⟨S_, .f32⟩
  | .hbm, ⟨6, _⟩ => ⟨S4096x256, .f32⟩
  | .hbm, ⟨7, _⟩ => ⟨S4096x256, .f32⟩
  | .hbm, ⟨8, _⟩ => ⟨S4096x256, .bf16⟩
  | .hbm, ⟨9, _⟩ => ⟨S_, .bf16⟩
  | .hbm, ⟨10, _⟩ => ⟨S8192x384, .bf16⟩
  | .hbm, ⟨11, _⟩ => ⟨S8192x256, .bf16⟩
  | .hbm, ⟨12, _⟩ => ⟨S_, .i32⟩
  | .hbm, ⟨13, _⟩ => ⟨S1, .i32⟩
  | .hbm, ⟨14, _⟩ => ⟨S8192x384, .bf16⟩
  | .hbm, ⟨15, _⟩ => ⟨S_, .i32⟩
  | .hbm, ⟨16, _⟩ => ⟨S1, .i32⟩
  | .hbm, ⟨17, _⟩ => ⟨S_, .bf16⟩
  | .hbm, ⟨18, _⟩ => ⟨S8192, .bf16⟩
  | .hbm, ⟨19, _⟩ => ⟨S8192x384, .bf16⟩
  | .hbm, ⟨20, _⟩ => ⟨S8192x256, .f32⟩
  | .hbm, ⟨21, _⟩ => ⟨S_, .f32⟩
  | .hbm, ⟨22, _⟩ => ⟨S8192, .f32⟩
  | .hbm, ⟨23, _⟩ => ⟨S1x8192, .f32⟩
  | .hbm, ⟨24, _⟩ => ⟨S4096x256, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S4096x256, .f32⟩
  | .hbm, ⟨29, _⟩ => ⟨S4096, .i32⟩
  | .hbm, ⟨30, _⟩ => ⟨S1x1, .f32⟩
  | .hbm, ⟨31, _⟩ => ⟨S1x1, .f32⟩
  | .hbm, ⟨32, _⟩ => ⟨S4x32x32x256, .f32⟩
  | .hbm, ⟨33, _⟩ => ⟨S4x256x32x32, .f32⟩
  | .hbm, ⟨34, _⟩ => ⟨S4x32x32, .i32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .local _ .vmem, ⟨0, _⟩ => ⟨S128x1, .f32⟩
  | .local _ .vmem, ⟨1, _⟩ => ⟨S128x1, .f32⟩
  | .local _ .vmem, ⟨2, _⟩ => ⟨S128x256, .bf16⟩
  | .local _ .vmem, ⟨3, _⟩ => ⟨S128x256, .bf16⟩
  | .local _ .vmem, ⟨4, _⟩ => ⟨S8192x384, .bf16⟩
  | .local _ .vmem, ⟨5, _⟩ => ⟨S1x8192, .f32⟩
  | .local _ .vmem, ⟨6, _⟩ => ⟨S128x8192, .f32⟩
  | .local _ .vmem, ⟨7, _⟩ => ⟨S128x8192, .f32⟩
  | .local _ .vmem, ⟨8, _⟩ => ⟨S128x256, .f32⟩
  | .local _ .vmem, ⟨9, _⟩ => ⟨S128x256, .f32⟩
  | .local _ .vmem, ⟨10, _⟩ => ⟨S128, .i32⟩
  | .local _ .vmem, ⟨11, _⟩ => ⟨S128, .i32⟩
  | .local _ .vmem, ⟨12, _⟩ => ⟨S1x1, .f32⟩
  | .local _ .vmem, ⟨13, _⟩ => ⟨S1x1, .f32⟩
  | _, _ => ⟨S4x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_cst_0 : Ref sig .tc := ⟨.hbm, 9, rfl⟩
abbrev main_call0_v5 : Ref sig .tc := ⟨.hbm, 10, rfl⟩
abbrev main_call0_v6 : Ref sig .tc := ⟨.hbm, 11, rfl⟩
abbrev main_call0_c : Ref sig .tc := ⟨.hbm, 12, rfl⟩
abbrev main_call0_v7 : Ref sig .tc := ⟨.hbm, 13, rfl⟩
abbrev main_call0_v8 : Ref sig .tc := ⟨.hbm, 14, rfl⟩
abbrev main_call0_c_1 : Ref sig .tc := ⟨.hbm, 15, rfl⟩
abbrev main_call0_v9 : Ref sig .tc := ⟨.hbm, 16, rfl⟩
abbrev main_call0_cst_2 : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_call0_cst_3 : Ref sig .tc := ⟨.hbm, 21, rfl⟩
abbrev main_call0_v13 : Ref sig .tc := ⟨.hbm, 22, rfl⟩
abbrev main_call0_v14 : Ref sig .tc := ⟨.hbm, 23, rfl⟩
abbrev main_call0_v15 : Ref sig .tc := ⟨.hbm, 24, rfl⟩
abbrev main_call0_cst_4 : Ref sig .tc := ⟨.hbm, 25, rfl⟩
abbrev main_call0_v16 : Ref sig .tc := ⟨.hbm, 26, rfl⟩
abbrev main_call0_v17 : Ref sig .tc := ⟨.hbm, 27, rfl⟩
abbrev main_call0_v18_0 : Ref sig .tc := ⟨.hbm, 28, rfl⟩
abbrev main_call0_v18_1 : Ref sig .tc := ⟨.hbm, 29, rfl⟩
abbrev main_call0_v18_2 : Ref sig .tc := ⟨.hbm, 30, rfl⟩
abbrev main_call0_v18_3 : Ref sig .tc := ⟨.hbm, 31, rfl⟩
abbrev main_call0_v19 : Ref sig .tc := ⟨.hbm, 32, rfl⟩
abbrev main_v0_0 : Ref sig .tc := ⟨.hbm, 33, rfl⟩
abbrev main_v0_1 : Ref sig .tc := ⟨.hbm, 34, rfl⟩
abbrev main_call0_v22 : Ref sig .tc := ⟨.hbm, 35, rfl⟩
abbrev main_call0_cst_5 : Ref sig .tc := ⟨.hbm, 36, rfl⟩
abbrev main_v0_2 : Ref sig .tc := ⟨.hbm, 37, rfl⟩
abbrev main_call0_v24 : Ref sig .tc := ⟨.hbm, 38, rfl⟩
abbrev main_call0_cst_6 : Ref sig .tc := ⟨.hbm, 39, rfl⟩
abbrev main_v0_3 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v65 : BitVec 1 := Scalar.cmpi .eq arg0 c0_i32
  let v66 : BitVec 32 := Scalar.extui v65
  let c0_i32_24 : BitVec 32 := 0#32
  let v67 : BitVec 1 := Scalar.cmpi .ne v66 c0_i32_24
  v67

def k0_cond2 (i : grid0.Coords) : BitVec 1 :=
  let arg0 : BitVec 32 := BitVec.ofNat 32 (i 0).val
  let c0_i32_25 : BitVec 32 := 0#32
  let v68 : BitVec 1 := Scalar.cmpi .ne arg0 c0_i32_25
  let v69 : BitVec 32 := Scalar.extui v68
  let c0_i32_26 : BitVec 32 := 0#32
  let v70 : BitVec 1 := Scalar.cmpi .ne v69 c0_i32_26
  v70

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 1 → Nat :=
  let arg0 : BitVec 32 := BitVec.ofNat 32 (i 0).val
  let c0_i32 : BitVec 32 := 0#32
  ![arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8192x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S4x256x32x32 : Shape := ⟨4, ![4, 256, 32, 32]⟩
abbrev S8192x256 : Shape := ⟨2, ![8192, 256]⟩
abbrev S4096x8192 : Shape := ⟨2, ![4096, 8192]⟩
abbrev S4x32x32x256 : Shape := ⟨4, ![4, 32, 32, 256]⟩
abbrev S4096x256 : Shape := ⟨2, ![4096, 256]⟩
abbrev S_ : Shape := ⟨0, ![]⟩
abbrev S8192 : Shape := ⟨1, ![8192]⟩
abbrev S4096 : Shape := ⟨1, ![4096]⟩
abbrev S4096x1 : Shape := ⟨2, ![4096, 1]⟩
abbrev S1x8192 : Shape := ⟨2, ![1, 8192]⟩
abbrev S256x8192 : Shape := ⟨2, ![256, 8192]⟩
abbrev S4x32x32 : Shape := ⟨3, ![4, 32, 32]⟩
abbrev S4x32x32x8192 : Shape := ⟨4, ![4, 32, 32, 8192]⟩
abbrev S4 : Shape := ⟨1, ![4]⟩

abbrev nBuf : Space → Nat
  | .hbm => 86
  | .vmem => 0
  | .smem => 0
  | _ => 0

abbrev bufTy : (tb : Table) → Fin (tcTables nBuf tb) → BufTy
  | .hbm, ⟨0, _⟩ => ⟨S4x256x32x32, .f32⟩
  | .hbm, ⟨1, _⟩ => ⟨S8192x256, .f32⟩
  | .hbm, ⟨2, _⟩ => ⟨S4096x8192, .f32⟩
  | .hbm, ⟨3, _⟩ => ⟨S4x32x32x256, .f32⟩
  | .hbm, ⟨4, _⟩ => ⟨S4096x256, .f32⟩
  | .hbm, ⟨5, _⟩ => ⟨S8192x256, .f32⟩
  | .hbm, ⟨6, _⟩ => ⟨S_, .f32⟩
  | .hbm, ⟨7, _⟩ => ⟨S8192, .f32⟩
  | .hbm, ⟨8, _⟩ => ⟨S4096x256, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S1x8192, .f32⟩
  | .hbm, ⟨13, _⟩ => ⟨S4096x8192, .f32⟩
  | .hbm, ⟨14, _⟩ => ⟨S4096x8192, .f32⟩
  | .hbm, ⟨15, _⟩ => ⟨S4096x8192, .f32⟩
  | .hbm, ⟨16, _⟩ => ⟨S256x8192, .f32⟩
  | .hbm, ⟨17, _⟩ => ⟨S4096x8192, .f32⟩
  | .hbm, ⟨18, _⟩ => ⟨S_, .f32⟩
  | .hbm, ⟨19, _⟩ => ⟨S4096x8192, .f32⟩
  | .hbm, ⟨20, _⟩ => ⟨S4096x8192, .f32⟩
  | .hbm, ⟨21, _⟩ => ⟨S4096x8192, .f32⟩
  | .hbm, ⟨22, _⟩ => ⟨S4096x8192, .f32⟩
  | .hbm, ⟨23, _⟩ => ⟨S4096x8192, .f32⟩
  | .hbm, ⟨24, _⟩ => ⟨S_, .f32⟩
  | .hbm, ⟨25, _⟩ => ⟨S4096x8192, .f32⟩
  | .hbm, ⟨26, _⟩ => ⟨S4096x8192, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S4096x1, .f32⟩
  | .hbm, ⟨33, _⟩ => ⟨S4096x8192, .f32⟩
  | .hbm, ⟨34, _⟩ => ⟨S4096x8192, .f32⟩
  | .hbm, ⟨35, _⟩ => ⟨S4096x8192, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x8192, .f32⟩
  | .hbm, ⟨40, _⟩ => ⟨S4096x8192, .f32⟩
  | .hbm, ⟨41, _⟩ => ⟨S4096x8192, .i32⟩
  | .hbm, ⟨42, _⟩ => ⟨S_, .f32⟩
  | .hbm, ⟨43, _⟩ => ⟨S_, .i32⟩
  | .hbm, ⟨44, _⟩ => ⟨S4096, .f32⟩
  | .hbm, ⟨45, _⟩ => ⟨S4096, .i32⟩
  | .hbm, ⟨46, _⟩ => ⟨S4x32x32, .i32⟩
  | .hbm, ⟨47, _⟩ => ⟨S4096x256, .f32⟩
  | .hbm, ⟨48, _⟩ => ⟨S4x32x32x256, .f32⟩
  | .hbm, ⟨49, _⟩ => ⟨S_, .f32⟩
  | .hbm, ⟨50, _⟩ => ⟨S4096, .f32⟩
  | .hbm, ⟨51, _⟩ => ⟨S_, .f32⟩
  | .hbm, ⟨52, _⟩ => ⟨S4096, .f32⟩
  | .hbm, ⟨53, _⟩ => ⟨S4096, .f32⟩
  | .hbm, ⟨54, _⟩ => ⟨S4096x1, .f32⟩
  | .hbm, ⟨55, _⟩ => ⟨S4096x8192, .f32⟩
  | .hbm, ⟨56, _⟩ => ⟨S4096x8192, .f32⟩
  | .hbm, ⟨57, _⟩ => ⟨S4096x8192, .f32⟩
  | .hbm, ⟨58, _⟩ => ⟨S_, .f32⟩
  | .hbm, ⟨59, _⟩ => ⟨S4096, .f32⟩
  | .hbm, ⟨60, _⟩ => ⟨S4096x1, .f32⟩
  | .hbm, ⟨61, _⟩ => ⟨S4096x8192, .f32⟩
  | .hbm, ⟨62, _⟩ => ⟨S4096x8192, .f32⟩
  | .hbm, ⟨63, _⟩ => ⟨S_, .f32⟩
  | .hbm, ⟨64, _⟩ => ⟨S_, .f32⟩
  | .hbm, ⟨65, _⟩ => ⟨S4096x8192, .f32⟩
  | .hbm, ⟨66, _⟩ => ⟨S4096x8192, .f32⟩
  | .hbm, ⟨67, _⟩ => ⟨S4096x8192, .f32⟩
  | .hbm, ⟨68, _⟩ => ⟨S4096x8192, .f32⟩
  | .hbm, ⟨69, _⟩ => ⟨S4x32x32x8192, .f32⟩
  | .hbm, ⟨70, _⟩ => ⟨S_, .f32⟩
  | .hbm, ⟨71, _⟩ => ⟨S4, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S4x32x32x8192, .f32⟩
  | .hbm, ⟨77, _⟩ => ⟨S4x32x32x8192, .f32⟩
  | .hbm, ⟨78, _⟩ => ⟨S4x32x32x8192, .f32⟩
  | .hbm, ⟨79, _⟩ => ⟨S_, .f32⟩
  | .hbm, ⟨80, _⟩ => ⟨S4, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S4x256x32x32, .f32⟩
  | _, _ => ⟨S4x256x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_call0_v0 : Ref sig .tc := ⟨.hbm, 41, rfl⟩
abbrev main_call0_cst : Ref sig .tc := ⟨.hbm, 42, rfl⟩
abbrev main_call0_c : Ref sig .tc := ⟨.hbm, 43, rfl⟩
abbrev main_call0_v1_0 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_10 : Ref sig .tc := ⟨.hbm, 70, rfl⟩
abbrev main_v52 : Ref sig .tc := ⟨.hbm, 71, rfl⟩
abbrev main_cst_11 : Ref sig .tc := ⟨.hbm, 72, rfl⟩
abbrev main_v53 : Ref sig .tc := ⟨.hbm, 73, rfl⟩
abbrev main_cst_12 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_13 : Ref sig .tc := ⟨.hbm, 79, rfl⟩
abbrev main_v58 : Ref sig .tc := ⟨.hbm, 80, rfl⟩
abbrev main_cst_14 : Ref sig .tc := ⟨.hbm, 81, rfl⟩
abbrev main_v59 : Ref sig .tc := ⟨.hbm, 82, rfl⟩
abbrev main_cst_15 : Ref sig .tc := ⟨.hbm, 83, rfl⟩
abbrev main_v60 : Ref sig .tc := ⟨.hbm, 84, rfl⟩
abbrev main_v61 : Ref sig .tc := ⟨.hbm, 85, rfl⟩

abbrev nD : Nat := 1
abbrev τ : Topo := Topo.v7x

variable {F : FTy → Type} [FloatOps F]
-- ==== Proof.RefRead.lean ====
/- The reference's values read one operation at a time: each operation of @main a named stage
   `val_<buffer>`, and, where an element of it depends on one element of each operand or is a sum
   along one axis, the stage read at an index. The text follows the form of the library's generated
   read modules. -/
module

public import proofs.«01_k».proof.Proof.Gen.ReferenceIdeal
public import Idealize.ShloMosaic.Lib.StableHlo.Run
public import Idealize.ShloMosaic.Lib.Pipeline.Value
public import Idealize.ShloMosaic.Lib.ValueIdx
public import Idealize.ShloMosaic.PureOps.Ideal.Laws

@[expose] public section

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

-- %0 = stablehlo.transpose %arg0, dims = [0, 2, 3, 1] : (tensor<4x256x32x32xf32>) -> tensor<4x32x32x256xf32>
def val_main_v0 (x0 : (⟨S4x256x32x32, .f32⟩ : BufTy).Contents (Elt F)) : (⟨S4x32x32x256, .f32⟩ : BufTy).Contents (Elt F) :=
  transpose S4x32x32x256 [0, 2, 3, 1] (x0) transposes_S4x256x32x32_S4x32x32x256_0_2_3_1
abbrev idx_main_v0 (i : S4x32x32x256.Idx) : S4x256x32x32.Idx := fun a => match a with
  | ⟨0, _⟩ => ⟨(i 0).val, (i 0).isLt⟩
  | ⟨1, _⟩ => ⟨(i 3).val, (i 3).isLt⟩
  | ⟨2, _⟩ => ⟨(i 1).val, (i 1).isLt⟩
  | ⟨3, _⟩ => ⟨(i 2).val, (i 2).isLt⟩
theorem val_main_v0_apply (x0 : (⟨S4x256x32x32, .f32⟩ : BufTy).Contents (Elt F)) (i : S4x32x32x256.Idx) :
    val_main_v0 (F := F) x0 i = x0 (idx_main_v0 i) := by
  unfold val_main_v0
  exact transpose_apply [0, 2, 3, 1] x0 transposes_S4x256x32x32_S4x32x32x256_0_2_3_1 i (idx_main_v0 i) (fun b => match b with
    | ⟨0, _⟩ => rfl
    | ⟨1, _⟩ => rfl
    | ⟨2, _⟩ => rfl
    | ⟨3, _⟩ => rfl)

-- %1 = stablehlo.reshape %0 : (tensor<4x32x32x256xf32>) -> tensor<4096x256xf32>
def val_main_v1 (x0 : (⟨S4x256x32x32, .f32⟩ : BufTy).Contents (Elt F)) : (⟨S4096x256, .f32⟩ : BufTy).Contents (Elt F) :=
  shapeCast _ (val_main_v0 (F := F) x0) shapeCasts_S4x32x32x256_S4096x256
set_option backward.proofsInPublic true in
abbrev idx_main_v1 (i : S4096x256.Idx) : S4x32x32x256.Idx := fun a => match a with
  | ⟨0, _⟩ => ⟨((i 0).val * 256 + (i 1).val) / 262144, by have h0 : (i 0).val < 4096 := (i 0).isLt; have h1 : (i 1).val < 256 := (i 1).isLt; show ((i 0).val * 256 + (i 1).val) / 262144 < 4; omega⟩
  | ⟨1, _⟩ => ⟨((i 0).val * 256 + (i 1).val) / 8192 % 32, by have h0 : (i 0).val < 4096 := (i 0).isLt; have h1 : (i 1).val < 256 := (i 1).isLt; show ((i 0).val * 256 + (i 1).val) / 8192 % 32 < 32; omega⟩
  | ⟨2, _⟩ => ⟨((i 0).val * 256 + (i 1).val) / 256 % 32, by have h0 : (i 0).val < 4096 := (i 0).isLt; have h1 : (i 1).val < 256 := (i 1).isLt; show ((i 0).val * 256 + (i 1).val) / 256 % 32 < 32; omega⟩
  | ⟨3, _⟩ => ⟨((i 0).val * 256 + (i 1).val) % 256, by have h0 : (i 0).val < 4096 := (i 0).isLt; have h1 : (i 1).val < 256 := (i 1).isLt; show ((i 0).val * 256 + (i 1).val) % 256 < 256; omega⟩
theorem val_main_v1_apply (x0 : (⟨S4x256x32x32, .f32⟩ : BufTy).Contents (Elt F)) (i : S4096x256.Idx) :
    val_main_v1 (F := F) x0 i = val_main_v0 (F := F) x0 (idx_main_v1 i) := by
  unfold val_main_v1
  generalize val_main_v0 (F := F) x0 = y
  exact shapeCast_apply y shapeCasts_S4x32x32x256_S4096x256 i (idx_main_v1 i)
    (by rewrite [Shape.rowMajor_val_four, Shape.rowMajor_val_two]; have h0 : (i 0).val < 4096 := (i 0).isLt; have h1 : (i 1).val < 256 := (i 1).isLt; show ((((i 0).val * 256 + (i 1).val) / 262144 * 32 + ((i 0).val * 256 + (i 1).val) / 8192 % 32) * 32 + ((i 0).val * 256 + (i 1).val) / 256 % 32) * 256 + ((i 0).val * 256 + (i 1).val) % 256 = (i 0).val * 256 + (i 1).val; omega)

-- %2 = stablehlo.multiply %arg1, %arg1 : tensor<8192x256xf32>
def val_main_v2 (x1 : (⟨S8192x256, .f32⟩ : BufTy).Contents (Elt F)) : (⟨S8192x256, .f32⟩ : BufTy).Contents (Elt F) :=
  mulf (x1) (x1)
theorem val_main_v2_apply (x1 : (⟨S8192x256, .f32⟩ : BufTy).Contents (Elt F)) (i : S8192x256.Idx) :
    val_main_v2 (F := F) x1 i = FloatOps.mulf (x1 i) (x1 i) := rfl

-- %cst = stablehlo.constant dense<0.000000e+00> : tensor<f32>
def val_main_cst : (⟨S_, .f32⟩ : BufTy).Contents (Elt F) :=
  constant S_ .f32 0x00000000#32
theorem val_main_cst_apply (i : S_.Idx) :
    val_main_cst (F := F) i = FloatOps.ofBits .f32 0x00000000#32 := rfl

-- %3 = stablehlo.reduce(%2 init: %cst) applies stablehlo.add across dimensions = [1] : (tensor<8192x256xf32>, tensor<f32>) -> tensor<8192xf32> {
def val_main_v3 (x1 : (⟨S8192x256, .f32⟩ : BufTy).Contents (Elt F)) : (⟨S8192, .f32⟩ : BufTy).Contents (Elt F) :=
  Host.reduceAdd (val_main_v2 (F := F) x1) (val_main_cst (F := F)) reducesTo_S8192x256_S8192_d1 h_S_
abbrev idx_main_v3 (i : S8192.Idx) (k : Fin 256) : S8192x256.Idx := fun a => match a with
  | ⟨0, _⟩ => ⟨(i 0).val, (i 0).isLt⟩
  | ⟨1, _⟩ => ⟨k.val, k.isLt⟩
/-- Stated at `F := Ideal`, where the host's float sum is this sum; at a bit-exact instance it is an opaque function of its operand. -/
theorem val_main_v3_apply (x1 : (⟨S8192x256, .f32⟩ : BufTy).Contents (Elt Ideal)) (i : S8192.Idx) :
    val_main_v3 (F := Ideal) x1 i = (val_main_cst (F := Ideal)) (Shape.Idx.first h_S_) + ∑ k : Fin 256, (val_main_v2 (F := Ideal) x1) (idx_main_v3 i k) := by
  unfold val_main_v3
  generalize val_main_v2 (F := Ideal) x1 = y0
  simp only [Host.reduceAdd, Ideal.hostReduceAdd_def]
  rw [Ideal.hostReduceAdd_single reducesTo_S8192x256_S8192_d1 (by decide)]
  refine congrArg (_ + ·) (Finset.sum_congr rfl fun k _ => ?_)
  exact congrArg y0 (funext fun a => Fin.ext (by match a with | ⟨0, _⟩ => rfl | ⟨1, _⟩ => rfl))

-- %4 = stablehlo.multiply %1, %1 : tensor<4096x256xf32>
def val_main_v4 (x0 : (⟨S4x256x32x32, .f32⟩ : BufTy).Contents (Elt F)) : (⟨S4096x256, .f32⟩ : BufTy).Contents (Elt F) :=
  mulf (val_main_v1 (F := F) x0) (val_main_v1 (F := F) x0)
theorem val_main_v4_apply (x0 : (⟨S4x256x32x32, .f32⟩ : BufTy).Contents (Elt F)) (i : S4096x256.Idx) :
    val_main_v4 (F := F) x0 i = FloatOps.mulf (val_main_v1 (F := F) x0 i) (val_main_v1 (F := F) x0 i) := rfl

-- %cst_0 = stablehlo.constant dense<0.000000e+00> : tensor<f32>
def val_main_cst_0 : (⟨S_, .f32⟩ : BufTy).Contents (Elt F) :=
  constant S_ .f32 0x00000000#32
theorem val_main_cst_0_apply (i : S_.Idx) :
    val_main_cst_0 (F := F) i = FloatOps.ofBits .f32 0x00000000#32 := rfl

-- %5 = stablehlo.reduce(%4 init: %cst_0) applies stablehlo.add across dimensions = [1] : (tensor<4096x256xf32>, tensor<f32>) -> tensor<4096xf32> {
def val_main_v5 (x0 : (⟨S4x256x32x32, .f32⟩ : BufTy).Contents (Elt F)) : (⟨S4096, .f32⟩ : BufTy).Contents (Elt F) :=
  Host.reduceAdd (val_main_v4 (F := F) x0) (val_main_cst_0 (F := F)) reducesTo_S4096x256_S4096_d1 h_S_
abbrev idx_main_v5 (i : S4096.Idx) (k : Fin 256) : S4096x256.Idx := fun a => match a with
  | ⟨0, _⟩ => ⟨(i 0).val, (i 0).isLt⟩
  | ⟨1, _⟩ => ⟨k.val, k.isLt⟩
/-- Stated at `F := Ideal`, where the host's float sum is this sum; at a bit-exact instance it is an opaque function of its operand. -/
theorem val_main_v5_apply (x0 : (⟨S4x256x32x32, .f32⟩ : BufTy).Contents (Elt Ideal)) (i : S4096.Idx) :
    val_main_v5 (F := Ideal) x0 i = (val_main_cst_0 (F := Ideal)) (Shape.Idx.first h_S_) + ∑ k : Fin 256, (val_main_v4 (F := Ideal) x0) (idx_main_v5 i k) := by
  unfold val_main_v5
  generalize val_main_v4 (F := Ideal) x0 = y0
  simp only [Host.reduceAdd, Ideal.hostReduceAdd_def]
  rw [Ideal.hostReduceAdd_single reducesTo_S4096x256_S4096_d1 (by decide)]
  refine congrArg (_ + ·) (Finset.sum_congr rfl fun k _ => ?_)
  exact congrArg y0 (funext fun a => Fin.ext (by match a with | ⟨0, _⟩ => rfl | ⟨1, _⟩ => rfl))

-- %6 = stablehlo.broadcast_in_dim %5, dims = [0] : (tensor<4096xf32>) -> tensor<4096x1xf32>
def val_main_v6 (x0 : (⟨S4x256x32x32, .f32⟩ : BufTy).Contents (Elt F)) : (⟨S4096x1, .f32⟩ : BufTy).Contents (Elt F) :=
  broadcastInDim S4096x1 ![0] bcast_S4096_S4096x1_0 (val_main_v5 (F := F) x0)
abbrev idx_main_v6 (i : S4096x1.Idx) : S4096.Idx := fun a => match a with
  | ⟨0, _⟩ => ⟨(i 0).val, (i 0).isLt⟩
theorem val_main_v6_apply (x0 : (⟨S4x256x32x32, .f32⟩ : BufTy).Contents (Elt F)) (i : S4096x1.Idx) :
    val_main_v6 (F := F) x0 i = val_main_v5 (F := F) x0 (idx_main_v6 i) := by
  unfold val_main_v6
  generalize val_main_v5 (F := F) x0 = y
  exact broadcastInDim_apply _ bcast_S4096_S4096x1_0 y i (idx_main_v6 i) (fun a => match a with
    | ⟨0, _⟩ => by show (i 0).val = if (4096 : Nat) = 1 then 0 else (i 0).val; rw [if_neg (by decide)])

-- %7 = stablehlo.broadcast_in_dim %3, dims = [1] : (tensor<8192xf32>) -> tensor<1x8192xf32>
def val_main_v7 (x1 : (⟨S8192x256, .f32⟩ : BufTy).Contents (Elt F)) : (⟨S1x8192, .f32⟩ : BufTy).Contents (Elt F) :=
  broadcastInDim S1x8192 ![1] bcast_S8192_S1x8192_1 (val_main_v3 (F := F) x1)
abbrev idx_main_v7 (i : S1x8192.Idx) : S8192.Idx := fun a => match a with
  | ⟨0, _⟩ => ⟨(i 1).val, (i 1).isLt⟩
theorem val_main_v7_apply (x1 : (⟨S8192x256, .f32⟩ : BufTy).Contents (Elt F)) (i : S1x8192.Idx) :
    val_main_v7 (F := F) x1 i = val_main_v3 (F := F) x1 (idx_main_v7 i) := by
  unfold val_main_v7
  generalize val_main_v3 (F := F) x1 = y
  exact broadcastInDim_apply _ bcast_S8192_S1x8192_1 y i (idx_main_v7 i) (fun a => match a with
    | ⟨0, _⟩ => by show (i 1).val = if (8192 : Nat) = 1 then 0 else (i 1).val; rw [if_neg (by decide)])

-- %8 = stablehlo.broadcast_in_dim %7, dims = [0, 1] : (tensor<1x8192xf32>) -> tensor<4096x8192xf32>
def val_main_v8 (x1 : (⟨S8192x256, .f32⟩ : BufTy).Contents (Elt F)) : (⟨S4096x8192, .f32⟩ : BufTy).Contents (Elt F) :=
  broadcastInDim S4096x8192 ![0, 1] bcast_S1x8192_S4096x8192_0_1 (val_main_v7 (F := F) x1)
abbrev idx_main_v8 (i : S4096x8192.Idx) : S1x8192.Idx := fun a => match a with
  | ⟨0, _⟩ => ⟨0, Nat.one_pos⟩
  | ⟨1, _⟩ => ⟨(i 1).val, (i 1).isLt⟩
theorem val_main_v8_apply (x1 : (⟨S8192x256, .f32⟩ : BufTy).Contents (Elt F)) (i : S4096x8192.Idx) :
    val_main_v8 (F := F) x1 i = val_main_v7 (F := F) x1 (idx_main_v8 i) := by
  unfold val_main_v8
  generalize val_main_v7 (F := F) x1 = y
  exact broadcastInDim_apply _ bcast_S1x8192_S4096x8192_0_1 y i (idx_main_v8 i) (fun a => match a with
    | ⟨0, _⟩ => by show 0 = if (1 : Nat) = 1 then 0 else (i 0).val; rw [if_pos rfl]
    | ⟨1, _⟩ => by show (i 1).val = if (8192 : Nat) = 1 then 0 else (i 1).val; rw [if_neg (by decide)])

-- %9 = stablehlo.broadcast_in_dim %6, dims = [0, 1] : (tensor<4096x1xf32>) -> tensor<4096x8192xf32>
def val_main_v9 (x0 : (⟨S4x256x32x32, .f32⟩ : BufTy).Contents (Elt F)) : (⟨S4096x8192, .f32⟩ : BufTy).Contents (Elt F) :=
  broadcastInDim S4096x8192 ![0, 1] bcast_S4096x1_S4096x8192_0_1 (val_main_v6 (F := F) x0)
abbrev idx_main_v9 (i : S4096x8192.Idx) : S4096x1.Idx := fun a => match a with
  | ⟨0, _⟩ => ⟨(i 0).val, (i 0).isLt⟩
  | ⟨1, _⟩ => ⟨0, Nat.one_pos⟩
theorem val_main_v9_apply (x0 : (⟨S4x256x32x32, .f32⟩ : BufTy).Contents (Elt F)) (i : S4096x8192.Idx) :
    val_main_v9 (F := F) x0 i = val_main_v6 (F := F) x0 (idx_main_v9 i) := by
  unfold val_main_v9
  generalize val_main_v6 (F := F) x0 = y
  exact broadcastInDim_apply _ bcast_S4096x1_S4096x8192_0_1 y i (idx_main_v9 i) (fun a => match a with
    | ⟨0, _⟩ => by show (i 0).val = if (4096 : Nat) = 1 then 0 else (i 0).val; rw [if_neg (by decide)]
    | ⟨1, _⟩ => by show 0 = if (1 : Nat) = 1 then 0 else (i 1).val; rw [if_pos rfl])

-- %10 = stablehlo.add %8, %9 : tensor<4096x8192xf32>
def val_main_v10 (x0 : (⟨S4x256x32x32, .f32⟩ : BufTy).Contents (Elt F)) (x1 : (⟨S8192x256, .f32⟩ : BufTy).Contents (Elt F)) : (⟨S4096x8192, .f32⟩ : BufTy).Contents (Elt F) :=
  addf (val_main_v8 (F := F) x1) (val_main_v9 (F := F) x0)
theorem val_main_v10_apply (x0 : (⟨S4x256x32x32, .f32⟩ : BufTy).Contents (Elt F)) (x1 : (⟨S8192x256, .f32⟩ : BufTy).Contents (Elt F)) (i : S4096x8192.Idx) :
    val_main_v10 (F := F) x0 x1 i = FloatOps.addf (val_main_v8 (F := F) x1 i) (val_main_v9 (F := F) x0 i) := rfl

-- %11 = stablehlo.transpose %arg1, dims = [1, 0] : (tensor<8192x256xf32>) -> tensor<256x8192xf32>
def val_main_v11 (x1 : (⟨S8192x256, .f32⟩ : BufTy).Contents (Elt F)) : (⟨S256x8192, .f32⟩ : BufTy).Contents (Elt F) :=
  transpose S256x8192 [1, 0] (x1) transposes_S8192x256_S256x8192_1_0
abbrev idx_main_v11 (i : S256x8192.Idx) : S8192x256.Idx := fun a => match a with
  | ⟨0, _⟩ => ⟨(i 1).val, (i 1).isLt⟩
  | ⟨1, _⟩ => ⟨(i 0).val, (i 0).isLt⟩
theorem val_main_v11_apply (x1 : (⟨S8192x256, .f32⟩ : BufTy).Contents (Elt F)) (i : S256x8192.Idx) :
    val_main_v11 (F := F) x1 i = x1 (idx_main_v11 i) := by
  unfold val_main_v11
  exact transpose_apply [1, 0] x1 transposes_S8192x256_S256x8192_1_0 i (idx_main_v11 i) (fun b => match b with
    | ⟨0, _⟩ => rfl
    | ⟨1, _⟩ => rfl)

-- %12 = stablehlo.dot_general %1, %11, contracting_dims = [1] x [0], precision = [DEFAULT, DEFAULT] : (tensor<4096x256xf32>, tensor<256x8192xf32>) -> tensor<4096x8192xf32>
def val_main_v12 (x0 : (⟨S4x256x32x32, .f32⟩ : BufTy).Contents (Elt F)) (x1 : (⟨S8192x256, .f32⟩ : BufTy).Contents (Elt F)) : (⟨S4096x8192, .f32⟩ : BufTy).Contents (Elt F) :=
  Host.dotGeneral dot_S4096x256_S256x8192_S4096x8192_1_0_0_1_n_n none (val_main_v1 (F := F) x0) (val_main_v11 (F := F) x1)
theorem lhs_main_v12_0 (i : S4096x8192.Idx) (q : dot_S4096x256_S256x8192_S4096x8192_1_0_0_1_n_n.contr.Idx) :
    (dot_S4096x256_S256x8192_S4096x8192_1_0_0_1_n_n.lhsIdx i q 0).val = (i 0).val := by
  unfold DotDims.lhsIdx
  rw [dif_neg (show ¬(0 : Fin S4096x256.rank) ∈ dot_S4096x256_S256x8192_S4096x8192_1_0_0_1_n_n.lhsBatch by decide), dif_pos (show (0 : Fin S4096x256.rank) ∈ dot_S4096x256_S256x8192_S4096x8192_1_0_0_1_n_n.lhsNonContracting by decide)]
  rfl
theorem lhs_main_v12_1 (i : S4096x8192.Idx) (q : dot_S4096x256_S256x8192_S4096x8192_1_0_0_1_n_n.contr.Idx) :
    (dot_S4096x256_S256x8192_S4096x8192_1_0_0_1_n_n.lhsIdx i q 1).val = (q ⟨0, by decide⟩).val :=
  dot_S4096x256_S256x8192_S4096x8192_1_0_0_1_n_n.lhsIdx_val_of_single rfl i q
theorem rhs_main_v12_0 (i : S4096x8192.Idx) (q : dot_S4096x256_S256x8192_S4096x8192_1_0_0_1_n_n.contr.Idx) :
    (dot_S4096x256_S256x8192_S4096x8192_1_0_0_1_n_n.rhsIdx i q 0).val = (q ⟨0, by decide⟩).val :=
  dot_S4096x256_S256x8192_S4096x8192_1_0_0_1_n_n.rhsIdx_val_of_single rfl i q
theorem rhs_main_v12_1 (i : S4096x8192.Idx) (q : dot_S4096x256_S256x8192_S4096x8192_1_0_0_1_n_n.contr.Idx) :
    (dot_S4096x256_S256x8192_S4096x8192_1_0_0_1_n_n.rhsIdx i q 1).val = (i 1).val := by
  unfold DotDims.rhsIdx
  rw [dif_neg (show ¬(1 : Fin S256x8192.rank) ∈ dot_S4096x256_S256x8192_S4096x8192_1_0_0_1_n_n.rhsBatch by decide), dif_pos (show (1 : Fin S256x8192.rank) ∈ dot_S4096x256_S256x8192_S4096x8192_1_0_0_1_n_n.rhsNonContracting by decide)]
  rfl
abbrev lidx_main_v12 (i : S4096x8192.Idx) (k : Fin 256) : S4096x256.Idx := fun a => match a with
  | ⟨0, _⟩ => ⟨(i 0).val, (i 0).isLt⟩
  | ⟨1, _⟩ => ⟨k.val, k.isLt⟩
abbrev ridx_main_v12 (i : S4096x8192.Idx) (k : Fin 256) : S256x8192.Idx := fun a => match a with
  | ⟨0, _⟩ => ⟨k.val, k.isLt⟩
  | ⟨1, _⟩ => ⟨(i 1).val, (i 1).isLt⟩
/-- Stated at `F := Ideal`, where the host's `dot_general` is this sum; at a bit-exact instance it is an opaque function of its operands. -/
theorem val_main_v12_apply (x0 : (⟨S4x256x32x32, .f32⟩ : BufTy).Contents (Elt Ideal)) (x1 : (⟨S8192x256, .f32⟩ : BufTy).Contents (Elt Ideal)) (i : S4096x8192.Idx) :
    val_main_v12 (F := Ideal) x0 x1 i = ∑ k : Fin 256, (val_main_v1 (F := Ideal) x0) (lidx_main_v12 i k) * (val_main_v11 (F := Ideal) x1) (ridx_main_v12 i k) := by
  unfold val_main_v12
  generalize val_main_v1 (F := Ideal) x0 = y0
  generalize val_main_v11 (F := Ideal) x1 = y1
  simp only [Host.dotGeneral]
  rw [Ideal.dotGeneral_apply, ← Equiv.sum_comp (ValueIdx.contrEquiv1 dot_S4096x256_S256x8192_S4096x8192_1_0_0_1_n_n 256 rfl rfl).symm]
  refine Finset.sum_congr rfl fun k _ => ?_
  have hk := ValueIdx.contrEquiv1_symm_val dot_S4096x256_S256x8192_S4096x8192_1_0_0_1_n_n 256 rfl rfl k
  have el : dot_S4096x256_S256x8192_S4096x8192_1_0_0_1_n_n.lhsIdx i ((ValueIdx.contrEquiv1 dot_S4096x256_S256x8192_S4096x8192_1_0_0_1_n_n 256 rfl rfl).symm k) = lidx_main_v12 i k := funext fun a => Fin.ext (by
    match a with
    | ⟨0, _⟩ => exact lhs_main_v12_0 _ _
    | ⟨1, _⟩ => exact (lhs_main_v12_1 _ _).trans hk)
  have er : dot_S4096x256_S256x8192_S4096x8192_1_0_0_1_n_n.rhsIdx i ((ValueIdx.contrEquiv1 dot_S4096x256_S256x8192_S4096x8192_1_0_0_1_n_n 256 rfl rfl).symm k) = ridx_main_v12 i k := funext fun a => Fin.ext (by
    match a with
    | ⟨0, _⟩ => exact (rhs_main_v12_0 _ _).trans hk
    | ⟨1, _⟩ => exact rhs_main_v12_1 _ _)
  rw [el, er]

-- %cst_1 = stablehlo.constant dense<2.000000e+00> : tensor<f32>
def val_main_cst_1 : (⟨S_, .f32⟩ : BufTy).Contents (Elt F) :=
  constant S_ .f32 0x40000000#32
theorem val_main_cst_1_apply (i : S_.Idx) :
    val_main_cst_1 (F := F) i = FloatOps.ofBits .f32 0x40000000#32 := rfl

-- %13 = stablehlo.broadcast_in_dim %cst_1, dims = [] : (tensor<f32>) -> tensor<4096x8192xf32>
def val_main_v13 : (⟨S4096x8192, .f32⟩ : BufTy).Contents (Elt F) :=
  broadcastInDim S4096x8192 ![] bcast_S_S4096x8192 (val_main_cst_1 (F := F))
abbrev idx_main_v13 (i : S4096x8192.Idx) : S_.Idx := fun a => a.elim0
theorem val_main_v13_apply (i : S4096x8192.Idx) :
    val_main_v13 (F := F) i = val_main_cst_1 (F := F) (idx_main_v13 i) := by
  unfold val_main_v13
  generalize val_main_cst_1 (F := F) = y
  exact broadcastInDim_apply _ bcast_S_S4096x8192 y i (idx_main_v13 i) (fun a => a.elim0)

-- %14 = stablehlo.multiply %13, %12 : tensor<4096x8192xf32>
def val_main_v14 (x0 : (⟨S4x256x32x32, .f32⟩ : BufTy).Contents (Elt F)) (x1 : (⟨S8192x256, .f32⟩ : BufTy).Contents (Elt F)) : (⟨S4096x8192, .f32⟩ : BufTy).Contents (Elt F) :=
  mulf (val_main_v13 (F := F)) (val_main_v12 (F := F) x0 x1)
theorem val_main_v14_apply (x0 : (⟨S4x256x32x32, .f32⟩ : BufTy).Contents (Elt F)) (x1 : (⟨S8192x256, .f32⟩ : BufTy).Contents (Elt F)) (i : S4096x8192.Idx) :
    val_main_v14 (F := F) x0 x1 i = FloatOps.mulf (val_main_v13 (F := F) i) (val_main_v12 (F := F) x0 x1 i) := rfl

-- %15 = stablehlo.subtract %10, %14 : tensor<4096x8192xf32>
def val_main_v15 (x0 : (⟨S4x256x32x32, .f32⟩ : BufTy).Contents (Elt F)) (x1 : (⟨S8192x256, .f32⟩ : BufTy).Contents (Elt F)) : (⟨S4096x8192, .f32⟩ : BufTy).Contents (Elt F) :=
  subf (val_main_v10 (F := F) x0 x1) (val_main_v14 (F := F) x0 x1)
theorem val_main_v15_apply (x0 : (⟨S4x256x32x32, .f32⟩ : BufTy).Contents (Elt F)) (x1 : (⟨S8192x256, .f32⟩ : BufTy).Contents (Elt F)) (i : S4096x8192.Idx) :
    val_main_v15 (F := F) x0 x1 i = FloatOps.subf (val_main_v10 (F := F) x0 x1 i) (val_main_v14 (F := F) x0 x1 i) := rfl

-- %16 = stablehlo.negate %15 : tensor<4096x8192xf32>
def val_main_v16 (x0 : (⟨S4x256x32x32, .f32⟩ : BufTy).Contents (Elt F)) (x1 : (⟨S8192x256, .f32⟩ : BufTy).Contents (Elt F)) : (⟨S4096x8192, .f32⟩ : BufTy).Contents (Elt F) :=
  Host.negf (val_main_v15 (F := F) x0 x1)
theorem val_main_v16_apply (x0 : (⟨S4x256x32x32, .f32⟩ : BufTy).Contents (Elt F)) (x1 : (⟨S8192x256, .f32⟩ : BufTy).Contents (Elt F)) (i : S4096x8192.Idx) :
    val_main_v16 (F := F) x0 x1 i = FloatOps.hostNegf (val_main_v15 (F := F) x0 x1 i) := rfl

-- %17 = stablehlo.add %16, %arg2 : tensor<4096x8192xf32>
def val_main_v17 (x0 : (⟨S4x256x32x32, .f32⟩ : BufTy).Contents (Elt F)) (x1 : (⟨S8192x256, .f32⟩ : BufTy).Contents (Elt F)) (x2 : (⟨S4096x8192, .f32⟩ : BufTy).Contents (Elt F)) : (⟨S4096x8192, .f32⟩ : BufTy).Contents (Elt F) :=
  addf (val_main_v16 (F := F) x0 x1) (x2)
theorem val_main_v17_apply (x0 : (⟨S4x256x32x32, .f32⟩ : BufTy).Contents (Elt F)) (x1 : (⟨S8192x256, .f32⟩ : BufTy).Contents (Elt F)) (x2 : (⟨S4096x8192, .f32⟩ : BufTy).Contents (Elt F)) (i : S4096x8192.Idx) :
    val_main_v17 (F := F) x0 x1 x2 i = FloatOps.addf (val_main_v16 (F := F) x0 x1 i) (x2 i) := rfl

-- %cst_2 = stablehlo.constant dense<5.000000e-01> : tensor<f32>
def val_main_cst_2 : (⟨S_, .f32⟩ : BufTy).Contents (Elt F) :=
  constant S_ .f32 0x3F000000#32
theorem val_main_cst_2_apply (i : S_.Idx) :
    val_main_cst_2 (F := F) i = FloatOps.ofBits .f32 0x3F000000#32 := rfl

-- %18 = stablehlo.broadcast_in_dim %cst_2, dims = [] : (tensor<f32>) -> tensor<4096x8192xf32>
def val_main_v18 : (⟨S4096x8192, .f32⟩ : BufTy).Contents (Elt F) :=
  broadcastInDim S4096x8192 ![] bcast_S_S4096x8192 (val_main_cst_2 (F := F))
abbrev idx_main_v18 (i : S4096x8192.Idx) : S_.Idx := fun a => a.elim0
theorem val_main_v18_apply (i : S4096x8192.Idx) :
    val_main_v18 (F := F) i = val_main_cst_2 (F := F) (idx_main_v18 i) := by
  unfold val_main_v18
  generalize val_main_cst_2 (F := F) = y
  exact broadcastInDim_apply _ bcast_S_S4096x8192 y i (idx_main_v18 i) (fun a => a.elim0)

-- %19 = stablehlo.divide %17, %18 : tensor<4096x8192xf32>
def val_main_v19 (x0 : (⟨S4x256x32x32, .f32⟩ : BufTy).Contents (Elt F)) (x1 : (⟨S8192x256, .f32⟩ : BufTy).Contents (Elt F)) (x2 : (⟨S4096x8192, .f32⟩ : BufTy).Contents (Elt F)) : (⟨S4096x8192, .f32⟩ : BufTy).Contents (Elt F) :=
  Host.divf (val_main_v17 (F := F) x0 x1 x2) (val_main_v18 (F := F))
theorem val_main_v19_apply (x0 : (⟨S4x256x32x32, .f32⟩ : BufTy).Contents (Elt F)) (x1 : (⟨S8192x256, .f32⟩ : BufTy).Contents (Elt F)) (x2 : (⟨S4096x8192, .f32⟩ : BufTy).Contents (Elt F)) (i : S4096x8192.Idx) :
    val_main_v19 (F := F) x0 x1 x2 i = FloatOps.hostDivf (val_main_v17 (F := F) x0 x1 x2 i) (val_main_v18 (F := F) i) := rfl

-- %cst_3 = stablehlo.constant dense<0xFF800000> : tensor<f32>
def val_main_cst_3 : (⟨S_, .f32⟩ : BufTy).Contents (Elt F) :=
  constant S_ .f32 0xFF800000#32
theorem val_main_cst_3_apply (i : S_.Idx) :
    val_main_cst_3 (F := F) i = FloatOps.ofBits .f32 0xFF800000#32 := rfl

-- %20 = stablehlo.reduce(%19 init: %cst_3) applies stablehlo.maximum across dimensions = [1] : (tensor<4096x8192xf32>, tensor<f32>) -> tensor<4096xf32> {
def val_main_v20 (x0 : (⟨S4x256x32x32, .f32⟩ : BufTy).Contents (Elt F)) (x1 : (⟨S8192x256, .f32⟩ : BufTy).Contents (Elt F)) (x2 : (⟨S4096x8192, .f32⟩ : BufTy).Contents (Elt F)) : (⟨S4096, .f32⟩ : BufTy).Contents (Elt F) :=
  Host.reduce FloatOps.maximumf (val_main_v19 (F := F) x0 x1 x2) (val_main_cst_3 (F := F)) reducesTo_S4096x8192_S4096_d1 h_S_

-- %cst_4 = stablehlo.constant dense<0xFF800000> : tensor<f32>
def val_main_cst_4 : (⟨S_, .f32⟩ : BufTy).Contents (Elt F) :=
  constant S_ .f32 0xFF800000#32
theorem val_main_cst_4_apply (i : S_.Idx) :
    val_main_cst_4 (F := F) i = FloatOps.ofBits .f32 0xFF800000#32 := rfl

-- %21 = stablehlo.broadcast_in_dim %cst_4, dims = [] : (tensor<f32>) -> tensor<4096xf32>
def val_main_v21 : (⟨S4096, .f32⟩ : BufTy).Contents (Elt F) :=
  broadcastInDim S4096 ![] bcast_S_S4096 (val_main_cst_4 (F := F))
abbrev idx_main_v21 (i : S4096.Idx) : S_.Idx := fun a => a.elim0
theorem val_main_v21_apply (i : S4096.Idx) :
    val_main_v21 (F := F) i = val_main_cst_4 (F := F) (idx_main_v21 i) := by
  unfold val_main_v21
  generalize val_main_cst_4 (F := F) = y
  exact broadcastInDim_apply _ bcast_S_S4096 y i (idx_main_v21 i) (fun a => a.elim0)

-- %22 = stablehlo.maximum %21, %20 : tensor<4096xf32>
def val_main_v22 (x0 : (⟨S4x256x32x32, .f32⟩ : BufTy).Contents (Elt F)) (x1 : (⟨S8192x256, .f32⟩ : BufTy).Contents (Elt F)) (x2 : (⟨S4096x8192, .f32⟩ : BufTy).Contents (Elt F)) : (⟨S4096, .f32⟩ : BufTy).Contents (Elt F) :=
  maximumf (val_main_v21 (F := F)) (val_main_v20 (F := F) x0 x1 x2)
theorem val_main_v22_apply (x0 : (⟨S4x256x32x32, .f32⟩ : BufTy).Contents (Elt F)) (x1 : (⟨S8192x256, .f32⟩ : BufTy).Contents (Elt F)) (x2 : (⟨S4096x8192, .f32⟩ : BufTy).Contents (Elt F)) (i : S4096.Idx) :
    val_main_v22 (F := F) x0 x1 x2 i = FloatOps.maximumf (val_main_v21 (F := F) i) (val_main_v20 (F := F) x0 x1 x2 i) := rfl

-- %23 = stablehlo.broadcast_in_dim %22, dims = [0] : (tensor<4096xf32>) -> tensor<4096x1xf32>
def val_main_v23 (x0 : (⟨S4x256x32x32, .f32⟩ : BufTy).Contents (Elt F)) (x1 : (⟨S8192x256, .f32⟩ : BufTy).Contents (Elt F)) (x2 : (⟨S4096x8192, .f32⟩ : BufTy).Contents (Elt F)) : (⟨S4096x1, .f32⟩ : BufTy).Contents (Elt F) :=
  broadcastInDim S4096x1 ![0] bcast_S4096_S4096x1_0 (val_main_v22 (F := F) x0 x1 x2)
abbrev idx_main_v23 (i : S4096x1.Idx) : S4096.Idx := fun a => match a with
  | ⟨0, _⟩ => ⟨(i 0).val, (i 0).isLt⟩
theorem val_main_v23_apply (x0 : (⟨S4x256x32x32, .f32⟩ : BufTy).Contents (Elt F)) (x1 : (⟨S8192x256, .f32⟩ : BufTy).Contents (Elt F)) (x2 : (⟨S4096x8192, .f32⟩ : BufTy).Contents (Elt F)) (i : S4096x1.Idx) :
    val_main_v23 (F := F) x0 x1 x2 i = val_main_v22 (F := F) x0 x1 x2 (idx_main_v23 i) := by
  unfold val_main_v23
  generalize val_main_v22 (F := F) x0 x1 x2 = y
  exact broadcastInDim_apply _ bcast_S4096_S4096x1_0 y i (idx_main_v23 i) (fun a => match a with
    | ⟨0, _⟩ => by show (i 0).val = if (4096 : Nat) = 1 then 0 else (i 0).val; rw [if_neg (by decide)])

-- %24 = stablehlo.broadcast_in_dim %23, dims = [0, 1] : (tensor<4096x1xf32>) -> tensor<4096x8192xf32>
def val_main_v24 (x0 : (⟨S4x256x32x32, .f32⟩ : BufTy).Contents (Elt F)) (x1 : (⟨S8192x256, .f32⟩ : BufTy).Contents (Elt F)) (x2 : (⟨S4096x8192, .f32⟩ : BufTy).Contents (Elt F)) : (⟨S4096x8192, .f32⟩ : BufTy).Contents (Elt F) :=
  broadcastInDim S4096x8192 ![0, 1] bcast_S4096x1_S4096x8192_0_1 (val_main_v23 (F := F) x0 x1 x2)
abbrev idx_main_v24 (i : S4096x8192.Idx) : S4096x1.Idx := fun a => match a with
  | ⟨0, _⟩ => ⟨(i 0).val, (i 0).isLt⟩
  | ⟨1, _⟩ => ⟨0, Nat.one_pos⟩
theorem val_main_v24_apply (x0 : (⟨S4x256x32x32, .f32⟩ : BufTy).Contents (Elt F)) (x1 : (⟨S8192x256, .f32⟩ : BufTy).Contents (Elt F)) (x2 : (⟨S4096x8192, .f32⟩ : BufTy).Contents (Elt F)) (i : S4096x8192.Idx) :
    val_main_v24 (F := F) x0 x1 x2 i = val_main_v23 (F := F) x0 x1 x2 (idx_main_v24 i) := by
  unfold val_main_v24
  generalize val_main_v23 (F := F) x0 x1 x2 = y
  exact broadcastInDim_apply _ bcast_S4096x1_S4096x8192_0_1 y i (idx_main_v24 i) (fun a => match a with
    | ⟨0, _⟩ => by show (i 0).val = if (4096 : Nat) = 1 then 0 else (i 0).val; rw [if_neg (by decide)]
    | ⟨1, _⟩ => by show 0 = if (1 : Nat) = 1 then 0 else (i 1).val; rw [if_pos rfl])

-- %25 = stablehlo.subtract %19, %24 : tensor<4096x8192xf32>
def val_main_v25 (x0 : (⟨S4x256x32x32, .f32⟩ : BufTy).Contents (Elt F)) (x1 : (⟨S8192x256, .f32⟩ : BufTy).Contents (Elt F)) (x2 : (⟨S4096x8192, .f32⟩ : BufTy).Contents (Elt F)) : (⟨S4096x8192, .f32⟩ : BufTy).Contents (Elt F) :=
  subf (val_main_v19 (F := F) x0 x1 x2) (val_main_v24 (F := F) x0 x1 x2)
theorem val_main_v25_apply (x0 : (⟨S4x256x32x32, .f32⟩ : BufTy).Contents (Elt F)) (x1 : (⟨S8192x256, .f32⟩ : BufTy).Contents (Elt F)) (x2 : (⟨S4096x8192, .f32⟩ : BufTy).Contents (Elt F)) (i : S4096x8192.Idx) :
    val_main_v25 (F := F) x0 x1 x2 i = FloatOps.subf (val_main_v19 (F := F) x0 x1 x2 i) (val_main_v24 (F := F) x0 x1 x2 i) := rfl

-- %26 = stablehlo.exponential %25 : tensor<4096x8192xf32>
def val_main_v26 (x0 : (⟨S4x256x32x32, .f32⟩ : BufTy).Contents (Elt F)) (x1 : (⟨S8192x256, .f32⟩ : BufTy).Contents (Elt F)) (x2 : (⟨S4096x8192, .f32⟩ : BufTy).Contents (Elt F)) : (⟨S4096x8192, .f32⟩ : BufTy).Contents (Elt F) :=
  Host.exp (val_main_v25 (F := F) x0 x1 x2)
theorem val_main_v26_apply (x0 : (⟨S4x256x32x32, .f32⟩ : BufTy).Contents (Elt F)) (x1 : (⟨S8192x256, .f32⟩ : BufTy).Contents (Elt F)) (x2 : (⟨S4096x8192, .f32⟩ : BufTy).Contents (Elt F)) (i : S4096x8192.Idx) :
    val_main_v26 (F := F) x0 x1 x2 i = FloatOps.hostUnary .exp (val_main_v25 (F := F) x0 x1 x2 i) := rfl

-- %cst_5 = stablehlo.constant dense<0.000000e+00> : tensor<f32>
def val_main_cst_5 : (⟨S_, .f32⟩ : BufTy).Contents (Elt F) :=
  constant S_ .f32 0x00000000#32
theorem val_main_cst_5_apply (i : S_.Idx) :
    val_main_cst_5 (F := F) i = FloatOps.ofBits .f32 0x00000000#32 := rfl

-- %27 = stablehlo.reduce(%26 init: %cst_5) applies stablehlo.add across dimensions = [1] : (tensor<4096x8192xf32>, tensor<f32>) -> tensor<4096xf32> {
def val_main_v27 (x0 : (⟨S4x256x32x32, .f32⟩ : BufTy).Contents (Elt F)) (x1 : (⟨S8192x256, .f32⟩ : BufTy).Contents (Elt F)) (x2 : (⟨S4096x8192, .f32⟩ : BufTy).Contents (Elt F)) : (⟨S4096, .f32⟩ : BufTy).Contents (Elt F) :=
  Host.reduceAdd (val_main_v26 (F := F) x0 x1 x2) (val_main_cst_5 (F := F)) reducesTo_S4096x8192_S4096_d1 h_S_
abbrev idx_main_v27 (i : S4096.Idx) (k : Fin 8192) : S4096x8192.Idx := fun a => match a with
  | ⟨0, _⟩ => ⟨(i 0).val, (i 0).isLt⟩
  | ⟨1, _⟩ => ⟨k.val, k.isLt⟩
/-- Stated at `F := Ideal`, where the host's float sum is this sum; at a bit-exact instance it is an opaque function of its operand. -/
theorem val_main_v27_apply (x0 : (⟨S4x256x32x32, .f32⟩ : BufTy).Contents (Elt Ideal)) (x1 : (⟨S8192x256, .f32⟩ : BufTy).Contents (Elt Ideal)) (x2 : (⟨S4096x8192, .f32⟩ : BufTy).Contents (Elt Ideal)) (i : S4096.Idx) :
    val_main_v27 (F := Ideal) x0 x1 x2 i = (val_main_cst_5 (F := Ideal)) (Shape.Idx.first h_S_) + ∑ k : Fin 8192, (val_main_v26 (F := Ideal) x0 x1 x2) (idx_main_v27 i k) := by
  unfold val_main_v27
  generalize val_main_v26 (F := Ideal) x0 x1 x2 = y0
  simp only [Host.reduceAdd, Ideal.hostReduceAdd_def]
  rw [Ideal.hostReduceAdd_single reducesTo_S4096x8192_S4096_d1 (by decide)]
  refine congrArg (_ + ·) (Finset.sum_congr rfl fun k _ => ?_)
  exact congrArg y0 (funext fun a => Fin.ext (by match a with | ⟨0, _⟩ => rfl | ⟨1, _⟩ => rfl))

-- %28 = stablehlo.broadcast_in_dim %27, dims = [0] : (tensor<4096xf32>) -> tensor<4096x1xf32>
def val_main_v28 (x0 : (⟨S4x256x32x32, .f32⟩ : BufTy).Contents (Elt F)) (x1 : (⟨S8192x256, .f32⟩ : BufTy).Contents (Elt F)) (x2 : (⟨S4096x8192, .f32⟩ : BufTy).Contents (Elt F)) : (⟨S4096x1, .f32⟩ : BufTy).Contents (Elt F) :=
  broadcastInDim S4096x1 ![0] bcast_S4096_S4096x1_0 (val_main_v27 (F := F) x0 x1 x2)
abbrev idx_main_v28 (i : S4096x1.Idx) : S4096.Idx := fun a => match a with
  | ⟨0, _⟩ => ⟨(i 0).val, (i 0).isLt⟩
theorem val_main_v28_apply (x0 : (⟨S4x256x32x32, .f32⟩ : BufTy).Contents (Elt F)) (x1 : (⟨S8192x256, .f32⟩ : BufTy).Contents (Elt F)) (x2 : (⟨S4096x8192, .f32⟩ : BufTy).Contents (Elt F)) (i : S4096x1.Idx) :
    val_main_v28 (F := F) x0 x1 x2 i = val_main_v27 (F := F) x0 x1 x2 (idx_main_v28 i) := by
  unfold val_main_v28
  generalize val_main_v27 (F := F) x0 x1 x2 = y
  exact broadcastInDim_apply _ bcast_S4096_S4096x1_0 y i (idx_main_v28 i) (fun a => match a with
    | ⟨0, _⟩ => by show (i 0).val = if (4096 : Nat) = 1 then 0 else (i 0).val; rw [if_neg (by decide)])

-- %29 = stablehlo.broadcast_in_dim %28, dims = [0, 1] : (tensor<4096x1xf32>) -> tensor<4096x8192xf32>
def val_main_v29 (x0 : (⟨S4x256x32x32, .f32⟩ : BufTy).Contents (Elt F)) (x1 : (⟨S8192x256, .f32⟩ : BufTy).Contents (Elt F)) (x2 : (⟨S4096x8192, .f32⟩ : BufTy).Contents (Elt F)) : (⟨S4096x8192, .f32⟩ : BufTy).Contents (Elt F) :=
  broadcastInDim S4096x8192 ![0, 1] bcast_S4096x1_S4096x8192_0_1 (val_main_v28 (F := F) x0 x1 x2)
abbrev idx_main_v29 (i : S4096x8192.Idx) : S4096x1.Idx := fun a => match a with
  | ⟨0, _⟩ => ⟨(i 0).val, (i 0).isLt⟩
  | ⟨1, _⟩ => ⟨0, Nat.one_pos⟩
theorem val_main_v29_apply (x0 : (⟨S4x256x32x32, .f32⟩ : BufTy).Contents (Elt F)) (x1 : (⟨S8192x256, .f32⟩ : BufTy).Contents (Elt F)) (x2 : (⟨S4096x8192, .f32⟩ : BufTy).Contents (Elt F)) (i : S4096x8192.Idx) :
    val_main_v29 (F := F) x0 x1 x2 i = val_main_v28 (F := F) x0 x1 x2 (idx_main_v29 i) := by
  unfold val_main_v29
  generalize val_main_v28 (F := F) x0 x1 x2 = y
  exact broadcastInDim_apply _ bcast_S4096x1_S4096x8192_0_1 y i (idx_main_v29 i) (fun a => match a with
    | ⟨0, _⟩ => by show (i 0).val = if (4096 : Nat) = 1 then 0 else (i 0).val; rw [if_neg (by decide)]
    | ⟨1, _⟩ => by show 0 = if (1 : Nat) = 1 then 0 else (i 1).val; rw [if_pos rfl])

-- %30 = stablehlo.divide %26, %29 : tensor<4096x8192xf32>
def val_main_v30 (x0 : (⟨S4x256x32x32, .f32⟩ : BufTy).Contents (Elt F)) (x1 : (⟨S8192x256, .f32⟩ : BufTy).Contents (Elt F)) (x2 : (⟨S4096x8192, .f32⟩ : BufTy).Contents (Elt F)) : (⟨S4096x8192, .f32⟩ : BufTy).Contents (Elt F) :=
  Host.divf (val_main_v26 (F := F) x0 x1 x2) (val_main_v29 (F := F) x0 x1 x2)
theorem val_main_v30_apply (x0 : (⟨S4x256x32x32, .f32⟩ : BufTy).Contents (Elt F)) (x1 : (⟨S8192x256, .f32⟩ : BufTy).Contents (Elt F)) (x2 : (⟨S4096x8192, .f32⟩ : BufTy).Contents (Elt F)) (i : S4096x8192.Idx) :
    val_main_v30 (F := F) x0 x1 x2 i = FloatOps.hostDivf (val_main_v26 (F := F) x0 x1 x2 i) (val_main_v29 (F := F) x0 x1 x2 i) := rfl

-- @argmax's %0 = stablehlo.iota dim = 1 : tensor<4096x8192xi32>, in %31 = func.call @argmax(…) (record main_call0)
def val_main_call0_v0 : (⟨S4096x8192, .i32⟩ : BufTy).Contents (Elt F) :=
  iotaInDim S4096x8192 32 1
theorem val_main_call0_v0_apply (i : S4096x8192.Idx) :
    val_main_call0_v0 (F := F) i = BitVec.ofNat 32 (i 1).val := rfl

-- @argmax's %cst = stablehlo.constant dense<0xFF800000> : tensor<f32>, in %31 = func.call @argmax(…) (record main_call0)
def val_main_call0_cst : (⟨S_, .f32⟩ : BufTy).Contents (Elt F) :=
  constant S_ .f32 0xFF800000#32
theorem val_main_call0_cst_apply (i : S_.Idx) :
    val_main_call0_cst (F := F) i = FloatOps.ofBits .f32 0xFF800000#32 := rfl

-- @argmax's %c = stablehlo.constant dense<0> : tensor<i32>, in %31 = func.call @argmax(…) (record main_call0)
def val_main_call0_c : (⟨S_, .i32⟩ : BufTy).Contents (Elt F) :=
  constantI S_ 32 0#32
theorem val_main_call0_c_apply (i : S_.Idx) :
    val_main_call0_c (F := F) i = 0#32 := rfl

-- @argmax's %1:2 = stablehlo.reduce(%arg0 init: %cst), (%0 init: %c) across dimensions = [1] : (tensor<4096x8192xf32>, tensor<4096x8192xi32>, tensor<f32>, tensor<i32>) -> (tensor<4096xf32>, tensor<4096xi32>) reducer(%arg1: tensor<f32>, %arg3: tensor<f32>) (%arg2: tensor<i32>, %arg4: tensor<i32>) {, in %31 = func.call @argmax(…) (record main_call0)
def val_main_call0_v1_0 (x0 : (⟨S4x256x32x32, .f32⟩ : BufTy).Contents (Elt F)) (x1 : (⟨S8192x256, .f32⟩ : BufTy).Contents (Elt F)) (x2 : (⟨S4096x8192, .f32⟩ : BufTy).Contents (Elt F)) : (⟨S4096, .f32⟩ : BufTy).Contents (Elt F) :=
  (fun j => (Host.argReduce reducer_argmax_f32_i32 (val_main_v30 (F := F) x0 x1 x2) (val_main_call0_v0 (F := F)) (val_main_call0_cst (F := F)) (val_main_call0_c (F := F)) reducesTo_S4096x8192_S4096_d1 h_S_ j).1)

-- %31 = func.call @argmax(…) (record main_call0) result 0: @argmax's %1:2 = stablehlo.reduce(%arg0 init: %cst), (%0 init: %c) across dimensions = [1] : (tensor<4096x8192xf32>, tensor<4096x8192xi32>, tensor<f32>, tensor<i32>) -> (tensor<4096xf32>, tensor<4096xi32>) reducer(%arg1: tensor<f32>, %arg3: tensor<f32>) (%arg2: tensor<i32>, %arg4: tensor<i32>) {
def val_main_v31 (x0 : (⟨S4x256x32x32, .f32⟩ : BufTy).Contents (Elt F)) (x1 : (⟨S8192x256, .f32⟩ : BufTy).Contents (Elt F)) (x2 : (⟨S4096x8192, .f32⟩ : BufTy).Contents (Elt F)) : (⟨S4096, .i32⟩ : BufTy).Contents (Elt F) :=
  (fun j => (Host.argReduce reducer_argmax_f32_i32 (val_main_v30 (F := F) x0 x1 x2) (val_main_call0_v0 (F := F)) (val_main_call0_cst (F := F)) (val_main_call0_c (F := F)) reducesTo_S4096x8192_S4096_d1 h_S_ j).2)

-- %32 = stablehlo.reshape %31 : (tensor<4096xi32>) -> tensor<4x32x32xi32>
def val_main_v32 (x0 : (⟨S4x256x32x32, .f32⟩ : BufTy).Contents (Elt F)) (x1 : (⟨S8192x256, .f32⟩ : BufTy).Contents (Elt F)) (x2 : (⟨S4096x8192, .f32⟩ : BufTy).Contents (Elt F)) : (⟨S4x32x32, .i32⟩ : BufTy).Contents (Elt F) :=
  shapeCast _ (val_main_v31 (F := F) x0 x1 x2) shapeCasts_S4096_S4x32x32
set_option backward.proofsInPublic true in
abbrev idx_main_v32 (i : S4x32x32.Idx) : S4096.Idx := fun a => match a with
  | ⟨0, _⟩ => ⟨((i 0).val * 32 + (i 1).val) * 32 + (i 2).val, by have h0 : (i 0).val < 4 := (i 0).isLt; have h1 : (i 1).val < 32 := (i 1).isLt; have h2 : (i 2).val < 32 := (i 2).isLt; show ((i 0).val * 32 + (i 1).val) * 32 + (i 2).val < 4096; omega⟩
theorem val_main_v32_apply (x0 : (⟨S4x256x32x32, .f32⟩ : BufTy).Contents (Elt F)) (x1 : (⟨S8192x256, .f32⟩ : BufTy).Contents (Elt F)) (x2 : (⟨S4096x8192, .f32⟩ : BufTy).Contents (Elt F)) (i : S4x32x32.Idx) :
    val_main_v32 (F := F) x0 x1 x2 i = val_main_v31 (F := F) x0 x1 x2 (idx_main_v32 i) := by
  unfold val_main_v32
  generalize val_main_v31 (F := F) x0 x1 x2 = y
  exact shapeCast_apply y shapeCasts_S4096_S4x32x32 i (idx_main_v32 i)
    (by rewrite [Shape.rowMajor_val_one, Shape.rowMajor_val_three]; have h0 : (i 0).val < 4 := (i 0).isLt; have h1 : (i 1).val < 32 := (i 1).isLt; have h2 : (i 2).val < 32 := (i 2).isLt; show ((i 0).val * 32 + (i 1).val) * 32 + (i 2).val = ((i 0).val * 32 + (i 1).val) * 32 + (i 2).val; omega)

-- %33 = stablehlo.dot_general %30, %arg1, contracting_dims = [1] x [0], precision = [DEFAULT, DEFAULT] : (tensor<4096x8192xf32>, tensor<8192x256xf32>) -> tensor<4096x256xf32>
def val_main_v33 (x0 : (⟨S4x256x32x32, .f32⟩ : BufTy).Contents (Elt F)) (x1 : (⟨S8192x256, .f32⟩ : BufTy).Contents (Elt F)) (x2 : (⟨S4096x8192, .f32⟩ : BufTy).Contents (Elt F)) : (⟨S4096x256, .f32⟩ : BufTy).Contents (Elt F) :=
  Host.dotGeneral dot_S4096x8192_S8192x256_S4096x256_1_0_0_1_n_n none (val_main_v30 (F := F) x0 x1 x2) (x1)
theorem lhs_main_v33_0 (i : S4096x256.Idx) (q : dot_S4096x8192_S8192x256_S4096x256_1_0_0_1_n_n.contr.Idx) :
    (dot_S4096x8192_S8192x256_S4096x256_1_0_0_1_n_n.lhsIdx i q 0).val = (i 0).val := by
  unfold DotDims.lhsIdx
  rw [dif_neg (show ¬(0 : Fin S4096x8192.rank) ∈ dot_S4096x8192_S8192x256_S4096x256_1_0_0_1_n_n.lhsBatch by decide), dif_pos (show (0 : Fin S4096x8192.rank) ∈ dot_S4096x8192_S8192x256_S4096x256_1_0_0_1_n_n.lhsNonContracting by decide)]
  rfl
theorem lhs_main_v33_1 (i : S4096x256.Idx) (q : dot_S4096x8192_S8192x256_S4096x256_1_0_0_1_n_n.contr.Idx) :
    (dot_S4096x8192_S8192x256_S4096x256_1_0_0_1_n_n.lhsIdx i q 1).val = (q ⟨0, by decide⟩).val :=
  dot_S4096x8192_S8192x256_S4096x256_1_0_0_1_n_n.lhsIdx_val_of_single rfl i q
theorem rhs_main_v33_0 (i : S4096x256.Idx) (q : dot_S4096x8192_S8192x256_S4096x256_1_0_0_1_n_n.contr.Idx) :
    (dot_S4096x8192_S8192x256_S4096x256_1_0_0_1_n_n.rhsIdx i q 0).val = (q ⟨0, by decide⟩).val :=
  dot_S4096x8192_S8192x256_S4096x256_1_0_0_1_n_n.rhsIdx_val_of_single rfl i q
theorem rhs_main_v33_1 (i : S4096x256.Idx) (q : dot_S4096x8192_S8192x256_S4096x256_1_0_0_1_n_n.contr.Idx) :
    (dot_S4096x8192_S8192x256_S4096x256_1_0_0_1_n_n.rhsIdx i q 1).val = (i 1).val := by
  unfold DotDims.rhsIdx
  rw [dif_neg (show ¬(1 : Fin S8192x256.rank) ∈ dot_S4096x8192_S8192x256_S4096x256_1_0_0_1_n_n.rhsBatch by decide), dif_pos (show (1 : Fin S8192x256.rank) ∈ dot_S4096x8192_S8192x256_S4096x256_1_0_0_1_n_n.rhsNonContracting by decide)]
  rfl
abbrev lidx_main_v33 (i : S4096x256.Idx) (k : Fin 8192) : S4096x8192.Idx := fun a => match a with
  | ⟨0, _⟩ => ⟨(i 0).val, (i 0).isLt⟩
  | ⟨1, _⟩ => ⟨k.val, k.isLt⟩
abbrev ridx_main_v33 (i : S4096x256.Idx) (k : Fin 8192) : S8192x256.Idx := fun a => match a with
  | ⟨0, _⟩ => ⟨k.val, k.isLt⟩
  | ⟨1, _⟩ => ⟨(i 1).val, (i 1).isLt⟩
/-- Stated at `F := Ideal`, where the host's `dot_general` is this sum; at a bit-exact instance it is an opaque function of its operands. -/
theorem val_main_v33_apply (x0 : (⟨S4x256x32x32, .f32⟩ : BufTy).Contents (Elt Ideal)) (x1 : (⟨S8192x256, .f32⟩ : BufTy).Contents (Elt Ideal)) (x2 : (⟨S4096x8192, .f32⟩ : BufTy).Contents (Elt Ideal)) (i : S4096x256.Idx) :
    val_main_v33 (F := Ideal) x0 x1 x2 i = ∑ k : Fin 8192, (val_main_v30 (F := Ideal) x0 x1 x2) (lidx_main_v33 i k) * x1 (ridx_main_v33 i k) := by
  unfold val_main_v33
  generalize val_main_v30 (F := Ideal) x0 x1 x2 = y0
  simp only [Host.dotGeneral]
  rw [Ideal.dotGeneral_apply, ← Equiv.sum_comp (ValueIdx.contrEquiv1 dot_S4096x8192_S8192x256_S4096x256_1_0_0_1_n_n 8192 rfl rfl).symm]
  refine Finset.sum_congr rfl fun k _ => ?_
  have hk := ValueIdx.contrEquiv1_symm_val dot_S4096x8192_S8192x256_S4096x256_1_0_0_1_n_n 8192 rfl rfl k
  have el : dot_S4096x8192_S8192x256_S4096x256_1_0_0_1_n_n.lhsIdx i ((ValueIdx.contrEquiv1 dot_S4096x8192_S8192x256_S4096x256_1_0_0_1_n_n 8192 rfl rfl).symm k) = lidx_main_v33 i k := funext fun a => Fin.ext (by
    match a with
    | ⟨0, _⟩ => exact lhs_main_v33_0 _ _
    | ⟨1, _⟩ => exact (lhs_main_v33_1 _ _).trans hk)
  have er : dot_S4096x8192_S8192x256_S4096x256_1_0_0_1_n_n.rhsIdx i ((ValueIdx.contrEquiv1 dot_S4096x8192_S8192x256_S4096x256_1_0_0_1_n_n 8192 rfl rfl).symm k) = ridx_main_v33 i k := funext fun a => Fin.ext (by
    match a with
    | ⟨0, _⟩ => exact (rhs_main_v33_0 _ _).trans hk
    | ⟨1, _⟩ => exact rhs_main_v33_1 _ _)
  rw [el, er]

-- %34 = stablehlo.reshape %33 : (tensor<4096x256xf32>) -> tensor<4x32x32x256xf32>
def val_main_v34 (x0 : (⟨S4x256x32x32, .f32⟩ : BufTy).Contents (Elt F)) (x1 : (⟨S8192x256, .f32⟩ : BufTy).Contents (Elt F)) (x2 : (⟨S4096x8192, .f32⟩ : BufTy).Contents (Elt F)) : (⟨S4x32x32x256, .f32⟩ : BufTy).Contents (Elt F) :=
  shapeCast _ (val_main_v33 (F := F) x0 x1 x2) shapeCasts_S4096x256_S4x32x32x256
set_option backward.proofsInPublic true in
abbrev idx_main_v34 (i : S4x32x32x256.Idx) : S4096x256.Idx := fun a => match a with
  | ⟨0, _⟩ => ⟨((((i 0).val * 32 + (i 1).val) * 32 + (i 2).val) * 256 + (i 3).val) / 256, by have h0 : (i 0).val < 4 := (i 0).isLt; have h1 : (i 1).val < 32 := (i 1).isLt; have h2 : (i 2).val < 32 := (i 2).isLt; have h3 : (i 3).val < 256 := (i 3).isLt; show ((((i 0).val * 32 + (i 1).val) * 32 + (i 2).val) * 256 + (i 3).val) / 256 < 4096; omega⟩
  | ⟨1, _⟩ => ⟨((((i 0).val * 32 + (i 1).val) * 32 + (i 2).val) * 256 + (i 3).val) % 256, by have h0 : (i 0).val < 4 := (i 0).isLt; have h1 : (i 1).val < 32 := (i 1).isLt; have h2 : (i 2).val < 32 := (i 2).isLt; have h3 : (i 3).val < 256 := (i 3).isLt; show ((((i 0).val * 32 + (i 1).val) * 32 + (i 2).val) * 256 + (i 3).val) % 256 < 256; omega⟩
theorem val_main_v34_apply (x0 : (⟨S4x256x32x32, .f32⟩ : BufTy).Contents (Elt F)) (x1 : (⟨S8192x256, .f32⟩ : BufTy).Contents (Elt F)) (x2 : (⟨S4096x8192, .f32⟩ : BufTy).Contents (Elt F)) (i : S4x32x32x256.Idx) :
    val_main_v34 (F := F) x0 x1 x2 i = val_main_v33 (F := F) x0 x1 x2 (idx_main_v34 i) := by
  unfold val_main_v34
  generalize val_main_v33 (F := F) x0 x1 x2 = y
  exact shapeCast_apply y shapeCasts_S4096x256_S4x32x32x256 i (idx_main_v34 i)
    (by rewrite [Shape.rowMajor_val_two, Shape.rowMajor_val_four]; have h0 : (i 0).val < 4 := (i 0).isLt; have h1 : (i 1).val < 32 := (i 1).isLt; have h2 : (i 2).val < 32 := (i 2).isLt; have h3 : (i 3).val < 256 := (i 3).isLt; show ((((i 0).val * 32 + (i 1).val) * 32 + (i 2).val) * 256 + (i 3).val) / 256 * 256 + ((((i 0).val * 32 + (i 1).val) * 32 + (i 2).val) * 256 + (i 3).val) % 256 = (((i 0).val * 32 + (i 1).val) * 32 + (i 2).val) * 256 + (i 3).val; omega)

-- %cst_6 = stablehlo.constant dense<0xFF800000> : tensor<f32>
def val_main_cst_6 : (⟨S_, .f32⟩ : BufTy).Contents (Elt F) :=
  constant S_ .f32 0xFF800000#32
theorem val_main_cst_6_apply (i : S_.Idx) :
    val_main_cst_6 (F := F) i = FloatOps.ofBits .f32 0xFF800000#32 := rfl

-- %35 = stablehlo.reduce(%16 init: %cst_6) applies stablehlo.maximum across dimensions = [1] : (tensor<4096x8192xf32>, tensor<f32>) -> tensor<4096xf32> {
def val_main_v35 (x0 : (⟨S4x256x32x32, .f32⟩ : BufTy).Contents (Elt F)) (x1 : (⟨S8192x256, .f32⟩ : BufTy).Contents (Elt F)) : (⟨S4096, .f32⟩ : BufTy).Contents (Elt F) :=
  Host.reduce FloatOps.maximumf (val_main_v16 (F := F) x0 x1) (val_main_cst_6 (F := F)) reducesTo_S4096x8192_S4096_d1 h_S_

-- %cst_7 = stablehlo.constant dense<0xFF800000> : tensor<f32>
def val_main_cst_7 : (⟨S_, .f32⟩ : BufTy).Contents (Elt F) :=
  constant S_ .f32 0xFF800000#32
theorem val_main_cst_7_apply (i : S_.Idx) :
    val_main_cst_7 (F := F) i = FloatOps.ofBits .f32 0xFF800000#32 := rfl

-- %36 = stablehlo.broadcast_in_dim %cst_7, dims = [] : (tensor<f32>) -> tensor<4096xf32>
def val_main_v36 : (⟨S4096, .f32⟩ : BufTy).Contents (Elt F) :=
  broadcastInDim S4096 ![] bcast_S_S4096 (val_main_cst_7 (F := F))
abbrev idx_main_v36 (i : S4096.Idx) : S_.Idx := fun a => a.elim0
theorem val_main_v36_apply (i : S4096.Idx) :
    val_main_v36 (F := F) i = val_main_cst_7 (F := F) (idx_main_v36 i) := by
  unfold val_main_v36
  generalize val_main_cst_7 (F := F) = y
  exact broadcastInDim_apply _ bcast_S_S4096 y i (idx_main_v36 i) (fun a => a.elim0)

-- %37 = stablehlo.maximum %36, %35 : tensor<4096xf32>
def val_main_v37 (x0 : (⟨S4x256x32x32, .f32⟩ : BufTy).Contents (Elt F)) (x1 : (⟨S8192x256, .f32⟩ : BufTy).Contents (Elt F)) : (⟨S4096, .f32⟩ : BufTy).Contents (Elt F) :=
  maximumf (val_main_v36 (F := F)) (val_main_v35 (F := F) x0 x1)
theorem val_main_v37_apply (x0 : (⟨S4x256x32x32, .f32⟩ : BufTy).Contents (Elt F)) (x1 : (⟨S8192x256, .f32⟩ : BufTy).Contents (Elt F)) (i : S4096.Idx) :
    val_main_v37 (F := F) x0 x1 i = FloatOps.maximumf (val_main_v36 (F := F) i) (val_main_v35 (F := F) x0 x1 i) := rfl

-- %38 = stablehlo.broadcast_in_dim %37, dims = [0] : (tensor<4096xf32>) -> tensor<4096x1xf32>
def val_main_v38 (x0 : (⟨S4x256x32x32, .f32⟩ : BufTy).Contents (Elt F)) (x1 : (⟨S8192x256, .f32⟩ : BufTy).Contents (Elt F)) : (⟨S4096x1, .f32⟩ : BufTy).Contents (Elt F) :=
  broadcastInDim S4096x1 ![0] bcast_S4096_S4096x1_0 (val_main_v37 (F := F) x0 x1)
abbrev idx_main_v38 (i : S4096x1.Idx) : S4096.Idx := fun a => match a with
  | ⟨0, _⟩ => ⟨(i 0).val, (i 0).isLt⟩
theorem val_main_v38_apply (x0 : (⟨S4x256x32x32, .f32⟩ : BufTy).Contents (Elt F)) (x1 : (⟨S8192x256, .f32⟩ : BufTy).Contents (Elt F)) (i : S4096x1.Idx) :
    val_main_v38 (F := F) x0 x1 i = val_main_v37 (F := F) x0 x1 (idx_main_v38 i) := by
  unfold val_main_v38
  generalize val_main_v37 (F := F) x0 x1 = y
  exact broadcastInDim_apply _ bcast_S4096_S4096x1_0 y i (idx_main_v38 i) (fun a => match a with
    | ⟨0, _⟩ => by show (i 0).val = if (4096 : Nat) = 1 then 0 else (i 0).val; rw [if_neg (by decide)])

-- %39 = stablehlo.broadcast_in_dim %38, dims = [0, 1] : (tensor<4096x1xf32>) -> tensor<4096x8192xf32>
def val_main_v39 (x0 : (⟨S4x256x32x32, .f32⟩ : BufTy).Contents (Elt F)) (x1 : (⟨S8192x256, .f32⟩ : BufTy).Contents (Elt F)) : (⟨S4096x8192, .f32⟩ : BufTy).Contents (Elt F) :=
  broadcastInDim S4096x8192 ![0, 1] bcast_S4096x1_S4096x8192_0_1 (val_main_v38 (F := F) x0 x1)
abbrev idx_main_v39 (i : S4096x8192.Idx) : S4096x1.Idx := fun a => match a with
  | ⟨0, _⟩ => ⟨(i 0).val, (i 0).isLt⟩
  | ⟨1, _⟩ => ⟨0, Nat.one_pos⟩
theorem val_main_v39_apply (x0 : (⟨S4x256x32x32, .f32⟩ : BufTy).Contents (Elt F)) (x1 : (⟨S8192x256, .f32⟩ : BufTy).Contents (Elt F)) (i : S4096x8192.Idx) :
    val_main_v39 (F := F) x0 x1 i = val_main_v38 (F := F) x0 x1 (idx_main_v39 i) := by
  unfold val_main_v39
  generalize val_main_v38 (F := F) x0 x1 = y
  exact broadcastInDim_apply _ bcast_S4096x1_S4096x8192_0_1 y i (idx_main_v39 i) (fun a => match a with
    | ⟨0, _⟩ => by show (i 0).val = if (4096 : Nat) = 1 then 0 else (i 0).val; rw [if_neg (by decide)]
    | ⟨1, _⟩ => by show 0 = if (1 : Nat) = 1 then 0 else (i 1).val; rw [if_pos rfl])

-- %40 = stablehlo.subtract %16, %39 : tensor<4096x8192xf32>
def val_main_v40 (x0 : (⟨S4x256x32x32, .f32⟩ : BufTy).Contents (Elt F)) (x1 : (⟨S8192x256, .f32⟩ : BufTy).Contents (Elt F)) : (⟨S4096x8192, .f32⟩ : BufTy).Contents (Elt F) :=
  subf (val_main_v16 (F := F) x0 x1) (val_main_v39 (F := F) x0 x1)
theorem val_main_v40_apply (x0 : (⟨S4x256x32x32, .f32⟩ : BufTy).Contents (Elt F)) (x1 : (⟨S8192x256, .f32⟩ : BufTy).Contents (Elt F)) (i : S4096x8192.Idx) :
    val_main_v40 (F := F) x0 x1 i = FloatOps.subf (val_main_v16 (F := F) x0 x1 i) (val_main_v39 (F := F) x0 x1 i) := rfl

-- %41 = stablehlo.exponential %40 : tensor<4096x8192xf32>
def val_main_v41 (x0 : (⟨S4x256x32x32, .f32⟩ : BufTy).Contents (Elt F)) (x1 : (⟨S8192x256, .f32⟩ : BufTy).Contents (Elt F)) : (⟨S4096x8192, .f32⟩ : BufTy).Contents (Elt F) :=
  Host.exp (val_main_v40 (F := F) x0 x1)
theorem val_main_v41_apply (x0 : (⟨S4x256x32x32, .f32⟩ : BufTy).Contents (Elt F)) (x1 : (⟨S8192x256, .f32⟩ : BufTy).Contents (Elt F)) (i : S4096x8192.Idx) :
    val_main_v41 (F := F) x0 x1 i = FloatOps.hostUnary .exp (val_main_v40 (F := F) x0 x1 i) := rfl

-- %cst_8 = stablehlo.constant dense<0.000000e+00> : tensor<f32>
def val_main_cst_8 : (⟨S_, .f32⟩ : BufTy).Contents (Elt F) :=
  constant S_ .f32 0x00000000#32
theorem val_main_cst_8_apply (i : S_.Idx) :
    val_main_cst_8 (F := F) i = FloatOps.ofBits .f32 0x00000000#32 := rfl

-- %42 = stablehlo.reduce(%41 init: %cst_8) applies stablehlo.add across dimensions = [1] : (tensor<4096x8192xf32>, tensor<f32>) -> tensor<4096xf32> {
def val_main_v42 (x0 : (⟨S4x256x32x32, .f32⟩ : BufTy).Contents (Elt F)) (x1 : (⟨S8192x256, .f32⟩ : BufTy).Contents (Elt F)) : (⟨S4096, .f32⟩ : BufTy).Contents (Elt F) :=
  Host.reduceAdd (val_main_v41 (F := F) x0 x1) (val_main_cst_8 (F := F)) reducesTo_S4096x8192_S4096_d1 h_S_
abbrev idx_main_v42 (i : S4096.Idx) (k : Fin 8192) : S4096x8192.Idx := fun a => match a with
  | ⟨0, _⟩ => ⟨(i 0).val, (i 0).isLt⟩
  | ⟨1, _⟩ => ⟨k.val, k.isLt⟩
/-- Stated at `F := Ideal`, where the host's float sum is this sum; at a bit-exact instance it is an opaque function of its operand. -/
theorem val_main_v42_apply (x0 : (⟨S4x256x32x32, .f32⟩ : BufTy).Contents (Elt Ideal)) (x1 : (⟨S8192x256, .f32⟩ : BufTy).Contents (Elt Ideal)) (i : S4096.Idx) :
    val_main_v42 (F := Ideal) x0 x1 i = (val_main_cst_8 (F := Ideal)) (Shape.Idx.first h_S_) + ∑ k : Fin 8192, (val_main_v41 (F := Ideal) x0 x1) (idx_main_v42 i k) := by
  unfold val_main_v42
  generalize val_main_v41 (F := Ideal) x0 x1 = y0
  simp only [Host.reduceAdd, Ideal.hostReduceAdd_def]
  rw [Ideal.hostReduceAdd_single reducesTo_S4096x8192_S4096_d1 (by decide)]
  refine congrArg (_ + ·) (Finset.sum_congr rfl fun k _ => ?_)
  exact congrArg y0 (funext fun a => Fin.ext (by match a with | ⟨0, _⟩ => rfl | ⟨1, _⟩ => rfl))

-- %43 = stablehlo.broadcast_in_dim %42, dims = [0] : (tensor<4096xf32>) -> tensor<4096x1xf32>
def val_main_v43 (x0 : (⟨S4x256x32x32, .f32⟩ : BufTy).Contents (Elt F)) (x1 : (⟨S8192x256, .f32⟩ : BufTy).Contents (Elt F)) : (⟨S4096x1, .f32⟩ : BufTy).Contents (Elt F) :=
  broadcastInDim S4096x1 ![0] bcast_S4096_S4096x1_0 (val_main_v42 (F := F) x0 x1)
abbrev idx_main_v43 (i : S4096x1.Idx) : S4096.Idx := fun a => match a with
  | ⟨0, _⟩ => ⟨(i 0).val, (i 0).isLt⟩
theorem val_main_v43_apply (x0 : (⟨S4x256x32x32, .f32⟩ : BufTy).Contents (Elt F)) (x1 : (⟨S8192x256, .f32⟩ : BufTy).Contents (Elt F)) (i : S4096x1.Idx) :
    val_main_v43 (F := F) x0 x1 i = val_main_v42 (F := F) x0 x1 (idx_main_v43 i) := by
  unfold val_main_v43
  generalize val_main_v42 (F := F) x0 x1 = y
  exact broadcastInDim_apply _ bcast_S4096_S4096x1_0 y i (idx_main_v43 i) (fun a => match a with
    | ⟨0, _⟩ => by show (i 0).val = if (4096 : Nat) = 1 then 0 else (i 0).val; rw [if_neg (by decide)])

-- %44 = stablehlo.broadcast_in_dim %43, dims = [0, 1] : (tensor<4096x1xf32>) -> tensor<4096x8192xf32>
def val_main_v44 (x0 : (⟨S4x256x32x32, .f32⟩ : BufTy).Contents (Elt F)) (x1 : (⟨S8192x256, .f32⟩ : BufTy).Contents (Elt F)) : (⟨S4096x8192, .f32⟩ : BufTy).Contents (Elt F) :=
  broadcastInDim S4096x8192 ![0, 1] bcast_S4096x1_S4096x8192_0_1 (val_main_v43 (F := F) x0 x1)
abbrev idx_main_v44 (i : S4096x8192.Idx) : S4096x1.Idx := fun a => match a with
  | ⟨0, _⟩ => ⟨(i 0).val, (i 0).isLt⟩
  | ⟨1, _⟩ => ⟨0, Nat.one_pos⟩
theorem val_main_v44_apply (x0 : (⟨S4x256x32x32, .f32⟩ : BufTy).Contents (Elt F)) (x1 : (⟨S8192x256, .f32⟩ : BufTy).Contents (Elt F)) (i : S4096x8192.Idx) :
    val_main_v44 (F := F) x0 x1 i = val_main_v43 (F := F) x0 x1 (idx_main_v44 i) := by
  unfold val_main_v44
  generalize val_main_v43 (F := F) x0 x1 = y
  exact broadcastInDim_apply _ bcast_S4096x1_S4096x8192_0_1 y i (idx_main_v44 i) (fun a => match a with
    | ⟨0, _⟩ => by show (i 0).val = if (4096 : Nat) = 1 then 0 else (i 0).val; rw [if_neg (by decide)]
    | ⟨1, _⟩ => by show 0 = if (1 : Nat) = 1 then 0 else (i 1).val; rw [if_pos rfl])

-- %45 = stablehlo.divide %41, %44 : tensor<4096x8192xf32>
def val_main_v45 (x0 : (⟨S4x256x32x32, .f32⟩ : BufTy).Contents (Elt F)) (x1 : (⟨S8192x256, .f32⟩ : BufTy).Contents (Elt F)) : (⟨S4096x8192, .f32⟩ : BufTy).Contents (Elt F) :=
  Host.divf (val_main_v41 (F := F) x0 x1) (val_main_v44 (F := F) x0 x1)
theorem val_main_v45_apply (x0 : (⟨S4x256x32x32, .f32⟩ : BufTy).Contents (Elt F)) (x1 : (⟨S8192x256, .f32⟩ : BufTy).Contents (Elt F)) (i : S4096x8192.Idx) :
    val_main_v45 (F := F) x0 x1 i = FloatOps.hostDivf (val_main_v41 (F := F) x0 x1 i) (val_main_v44 (F := F) x0 x1 i) := rfl

-- %cst_9 = stablehlo.constant dense<8.192000e+03> : tensor<f32>
def val_main_cst_9 : (⟨S_, .f32⟩ : BufTy).Contents (Elt F) :=
  constant S_ .f32 0x46000000#32
theorem val_main_cst_9_apply (i : S_.Idx) :
    val_main_cst_9 (F := F) i = FloatOps.ofBits .f32 0x46000000#32 := rfl

-- %46 = stablehlo.log %cst_9 : tensor<f32>
def val_main_v46 : (⟨S_, .f32⟩ : BufTy).Contents (Elt F) :=
  Host.log (val_main_cst_9 (F := F))
theorem val_main_v46_apply (i : S_.Idx) :
    val_main_v46 (F := F) i = FloatOps.hostUnary .log (val_main_cst_9 (F := F) i) := rfl

-- %47 = stablehlo.log %45 : tensor<4096x8192xf32>
def val_main_v47 (x0 : (⟨S4x256x32x32, .f32⟩ : BufTy).Contents (Elt F)) (x1 : (⟨S8192x256, .f32⟩ : BufTy).Contents (Elt F)) : (⟨S4096x8192, .f32⟩ : BufTy).Contents (Elt F) :=
  Host.log (val_main_v45 (F := F) x0 x1)
theorem val_main_v47_apply (x0 : (⟨S4x256x32x32, .f32⟩ : BufTy).Contents (Elt F)) (x1 : (⟨S8192x256, .f32⟩ : BufTy).Contents (Elt F)) (i : S4096x8192.Idx) :
    val_main_v47 (F := F) x0 x1 i = FloatOps.hostUnary .log (val_main_v45 (F := F) x0 x1 i) := rfl

-- %48 = stablehlo.broadcast_in_dim %46, dims = [] : (tensor<f32>) -> tensor<4096x8192xf32>
def val_main_v48 : (⟨S4096x8192, .f32⟩ : BufTy).Contents (Elt F) :=
  broadcastInDim S4096x8192 ![] bcast_S_S4096x8192 (val_main_v46 (F := F))
abbrev idx_main_v48 (i : S4096x8192.Idx) : S_.Idx := fun a => a.elim0
theorem val_main_v48_apply (i : S4096x8192.Idx) :
    val_main_v48 (F := F) i = val_main_v46 (F := F) (idx_main_v48 i) := by
  unfold val_main_v48
  generalize val_main_v46 (F := F) = y
  exact broadcastInDim_apply _ bcast_S_S4096x8192 y i (idx_main_v48 i) (fun a => a.elim0)

-- %49 = stablehlo.add %47, %48 : tensor<4096x8192xf32>
def val_main_v49 (x0 : (⟨S4x256x32x32, .f32⟩ : BufTy).Contents (Elt F)) (x1 : (⟨S8192x256, .f32⟩ : BufTy).Contents (Elt F)) : (⟨S4096x8192, .f32⟩ : BufTy).Contents (Elt F) :=
  addf (val_main_v47 (F := F) x0 x1) (val_main_v48 (F := F))
theorem val_main_v49_apply (x0 : (⟨S4x256x32x32, .f32⟩ : BufTy).Contents (Elt F)) (x1 : (⟨S8192x256, .f32⟩ : BufTy).Contents (Elt F)) (i : S4096x8192.Idx) :
    val_main_v49 (F := F) x0 x1 i = FloatOps.addf (val_main_v47 (F := F) x0 x1 i) (val_main_v48 (F := F) i) := rfl

-- %50 = stablehlo.multiply %45, %49 : tensor<4096x8192xf32>
def val_main_v50 (x0 : (⟨S4x256x32x32, .f32⟩ : BufTy).Contents (Elt F)) (x1 : (⟨S8192x256, .f32⟩ : BufTy).Contents (Elt F)) : (⟨S4096x8192, .f32⟩ : BufTy).Contents (Elt F) :=
  mulf (val_main_v45 (F := F) x0 x1) (val_main_v49 (F := F) x0 x1)
theorem val_main_v50_apply (x0 : (⟨S4x256x32x32, .f32⟩ : BufTy).Contents (Elt F)) (x1 : (⟨S8192x256, .f32⟩ : BufTy).Contents (Elt F)) (i : S4096x8192.Idx) :
    val_main_v50 (F := F) x0 x1 i = FloatOps.mulf (val_main_v45 (F := F) x0 x1 i) (val_main_v49 (F := F) x0 x1 i) := rfl

-- %51 = stablehlo.reshape %50 : (tensor<4096x8192xf32>) -> tensor<4x32x32x8192xf32>
def val_main_v51 (x0 : (⟨S4x256x32x32, .f32⟩ : BufTy).Contents (Elt F)) (x1 : (⟨S8192x256, .f32⟩ : BufTy).Contents (Elt F)) : (⟨S4x32x32x8192, .f32⟩ : BufTy).Contents (Elt F) :=
  shapeCast _ (val_main_v50 (F := F) x0 x1) shapeCasts_S4096x8192_S4x32x32x8192
set_option backward.proofsInPublic true in
abbrev idx_main_v51 (i : S4x32x32x8192.Idx) : S4096x8192.Idx := fun a => match a with
  | ⟨0, _⟩ => ⟨((((i 0).val * 32 + (i 1).val) * 32 + (i 2).val) * 8192 + (i 3).val) / 8192, by have h0 : (i 0).val < 4 := (i 0).isLt; have h1 : (i 1).val < 32 := (i 1).isLt; have h2 : (i 2).val < 32 := (i 2).isLt; have h3 : (i 3).val < 8192 := (i 3).isLt; show ((((i 0).val * 32 + (i 1).val) * 32 + (i 2).val) * 8192 + (i 3).val) / 8192 < 4096; omega⟩
  | ⟨1, _⟩ => ⟨((((i 0).val * 32 + (i 1).val) * 32 + (i 2).val) * 8192 + (i 3).val) % 8192, by have h0 : (i 0).val < 4 := (i 0).isLt; have h1 : (i 1).val < 32 := (i 1).isLt; have h2 : (i 2).val < 32 := (i 2).isLt; have h3 : (i 3).val < 8192 := (i 3).isLt; show ((((i 0).val * 32 + (i 1).val) * 32 + (i 2).val) * 8192 + (i 3).val) % 8192 < 8192; omega⟩
theorem val_main_v51_apply (x0 : (⟨S4x256x32x32, .f32⟩ : BufTy).Contents (Elt F)) (x1 : (⟨S8192x256, .f32⟩ : BufTy).Contents (Elt F)) (i : S4x32x32x8192.Idx) :
    val_main_v51 (F := F) x0 x1 i = val_main_v50 (F := F) x0 x1 (idx_main_v51 i) := by
  unfold val_main_v51
  generalize val_main_v50 (F := F) x0 x1 = y
  exact shapeCast_apply y shapeCasts_S4096x8192_S4x32x32x8192 i (idx_main_v51 i)
    (by rewrite [Shape.rowMajor_val_two, Shape.rowMajor_val_four]; have h0 : (i 0).val < 4 := (i 0).isLt; have h1 : (i 1).val < 32 := (i 1).isLt; have h2 : (i 2).val < 32 := (i 2).isLt; have h3 : (i 3).val < 8192 := (i 3).isLt; show ((((i 0).val * 32 + (i 1).val) * 32 + (i 2).val) * 8192 + (i 3).val) / 8192 * 8192 + ((((i 0).val * 32 + (i 1).val) * 32 + (i 2).val) * 8192 + (i 3).val) % 8192 = (((i 0).val * 32 + (i 1).val) * 32 + (i 2).val) * 8192 + (i 3).val; omega)

-- %cst_10 = stablehlo.constant dense<0.000000e+00> : tensor<f32>
def val_main_cst_10 : (⟨S_, .f32⟩ : BufTy).Contents (Elt F) :=
  constant S_ .f32 0x00000000#32
theorem val_main_cst_10_apply (i : S_.Idx) :
    val_main_cst_10 (F := F) i = FloatOps.ofBits .f32 0x00000000#32 := rfl

-- %52 = stablehlo.reduce(%51 init: %cst_10) applies stablehlo.add across dimensions = [1, 2, 3] : (tensor<4x32x32x8192xf32>, tensor<f32>) -> tensor<4xf32> {
def val_main_v52 (x0 : (⟨S4x256x32x32, .f32⟩ : BufTy).Contents (Elt F)) (x1 : (⟨S8192x256, .f32⟩ : BufTy).Contents (Elt F)) : (⟨S4, .f32⟩ : BufTy).Contents (Elt F) :=
  Host.reduceAdd (val_main_v51 (F := F) x0 x1) (val_main_cst_10 (F := F)) reducesTo_S4x32x32x8192_S4_d1_2_3 h_S_

-- %cst_11 = stablehlo.constant dense<0.000000e+00> : tensor<f32>
def val_main_cst_11 : (⟨S_, .f32⟩ : BufTy).Contents (Elt F) :=
  constant S_ .f32 0x00000000#32
theorem val_main_cst_11_apply (i : S_.Idx) :
    val_main_cst_11 (F := F) i = FloatOps.ofBits .f32 0x00000000#32 := rfl

-- %53 = stablehlo.reduce(%52 init: %cst_11) applies stablehlo.add across dimensions = [0] : (tensor<4xf32>, tensor<f32>) -> tensor<f32> {
def val_main_v53 (x0 : (⟨S4x256x32x32, .f32⟩ : BufTy).Contents (Elt F)) (x1 : (⟨S8192x256, .f32⟩ : BufTy).Contents (Elt F)) : (⟨S_, .f32⟩ : BufTy).Contents (Elt F) :=
  Host.reduceAdd (val_main_v52 (F := F) x0 x1) (val_main_cst_11 (F := F)) reducesTo_S4_S_d0 h_S_
/-- Stated at `F := Ideal`, where the host's float sum is this sum; at a bit-exact instance it is an opaque function of its operand. -/
theorem val_main_v53_apply (x0 : (⟨S4x256x32x32, .f32⟩ : BufTy).Contents (Elt Ideal)) (x1 : (⟨S8192x256, .f32⟩ : BufTy).Contents (Elt Ideal)) (i : S_.Idx) :
    val_main_v53 (F := Ideal) x0 x1 i = (val_main_cst_11 (F := Ideal)) (Shape.Idx.first h_S_) + ∑ j : S4.Idx, (val_main_v52 (F := Ideal) x0 x1) j := by
  unfold val_main_v53
  generalize val_main_v52 (F := Ideal) x0 x1 = y0
  simp only [Host.reduceAdd, Ideal.hostReduceAdd_def]
  exact Ideal.hostReduceAdd_total reducesTo_S4_S_d0 (fun b => b.elim0) y0 _ i

-- %cst_12 = stablehlo.constant dense<4.000000e+00> : tensor<f32>
def val_main_cst_12 : (⟨S_, .f32⟩ : BufTy).Contents (Elt F) :=
  constant S_ .f32 0x40800000#32
theorem val_main_cst_12_apply (i : S_.Idx) :
    val_main_cst_12 (F := F) i = FloatOps.ofBits .f32 0x40800000#32 := rfl

-- %54 = stablehlo.divide %53, %cst_12 : tensor<f32>
def val_main_v54 (x0 : (⟨S4x256x32x32, .f32⟩ : BufTy).Contents (Elt F)) (x1 : (⟨S8192x256, .f32⟩ : BufTy).Contents (Elt F)) : (⟨S_, .f32⟩ : BufTy).Contents (Elt F) :=
  Host.divf (val_main_v53 (F := F) x0 x1) (val_main_cst_12 (F := F))
theorem val_main_v54_apply (x0 : (⟨S4x256x32x32, .f32⟩ : BufTy).Contents (Elt F)) (x1 : (⟨S8192x256, .f32⟩ : BufTy).Contents (Elt F)) (i : S_.Idx) :
    val_main_v54 (F := F) x0 x1 i = FloatOps.hostDivf (val_main_v53 (F := F) x0 x1 i) (val_main_cst_12 (F := F) i) := rfl

-- %55 = stablehlo.reshape %45 : (tensor<4096x8192xf32>) -> tensor<4x32x32x8192xf32>
def val_main_v55 (x0 : (⟨S4x256x32x32, .f32⟩ : BufTy).Contents (Elt F)) (x1 : (⟨S8192x256, .f32⟩ : BufTy).Contents (Elt F)) : (⟨S4x32x32x8192, .f32⟩ : BufTy).Contents (Elt F) :=
  shapeCast _ (val_main_v45 (F := F) x0 x1) shapeCasts_S4096x8192_S4x32x32x8192
set_option backward.proofsInPublic true in
abbrev idx_main_v55 (i : S4x32x32x8192.Idx) : S4096x8192.Idx := fun a => match a with
  | ⟨0, _⟩ => ⟨((((i 0).val * 32 + (i 1).val) * 32 + (i 2).val) * 8192 + (i 3).val) / 8192, by have h0 : (i 0).val < 4 := (i 0).isLt; have h1 : (i 1).val < 32 := (i 1).isLt; have h2 : (i 2).val < 32 := (i 2).isLt; have h3 : (i 3).val < 8192 := (i 3).isLt; show ((((i 0).val * 32 + (i 1).val) * 32 + (i 2).val) * 8192 + (i 3).val) / 8192 < 4096; omega⟩
  | ⟨1, _⟩ => ⟨((((i 0).val * 32 + (i 1).val) * 32 + (i 2).val) * 8192 + (i 3).val) % 8192, by have h0 : (i 0).val < 4 := (i 0).isLt; have h1 : (i 1).val < 32 := (i 1).isLt; have h2 : (i 2).val < 32 := (i 2).isLt; have h3 : (i 3).val < 8192 := (i 3).isLt; show ((((i 0).val * 32 + (i 1).val) * 32 + (i 2).val) * 8192 + (i 3).val) % 8192 < 8192; omega⟩
theorem val_main_v55_apply (x0 : (⟨S4x256x32x32, .f32⟩ : BufTy).Contents (Elt F)) (x1 : (⟨S8192x256, .f32⟩ : BufTy).Contents (Elt F)) (i : S4x32x32x8192.Idx) :
    val_main_v55 (F := F) x0 x1 i = val_main_v45 (F := F) x0 x1 (idx_main_v55 i) := by
  unfold val_main_v55
  generalize val_main_v45 (F := F) x0 x1 = y
  exact shapeCast_apply y shapeCasts_S4096x8192_S4x32x32x8192 i (idx_main_v55 i)
    (by rewrite [Shape.rowMajor_val_two, Shape.rowMajor_val_four]; have h0 : (i 0).val < 4 := (i 0).isLt; have h1 : (i 1).val < 32 := (i 1).isLt; have h2 : (i 2).val < 32 := (i 2).isLt; have h3 : (i 3).val < 8192 := (i 3).isLt; show ((((i 0).val * 32 + (i 1).val) * 32 + (i 2).val) * 8192 + (i 3).val) / 8192 * 8192 + ((((i 0).val * 32 + (i 1).val) * 32 + (i 2).val) * 8192 + (i 3).val) % 8192 = (((i 0).val * 32 + (i 1).val) * 32 + (i 2).val) * 8192 + (i 3).val; omega)

-- %56 = stablehlo.reshape %15 : (tensor<4096x8192xf32>) -> tensor<4x32x32x8192xf32>
def val_main_v56 (x0 : (⟨S4x256x32x32, .f32⟩ : BufTy).Contents (Elt F)) (x1 : (⟨S8192x256, .f32⟩ : BufTy).Contents (Elt F)) : (⟨S4x32x32x8192, .f32⟩ : BufTy).Contents (Elt F) :=
  shapeCast _ (val_main_v15 (F := F) x0 x1) shapeCasts_S4096x8192_S4x32x32x8192
set_option backward.proofsInPublic true in
abbrev idx_main_v56 (i : S4x32x32x8192.Idx) : S4096x8192.Idx := fun a => match a with
  | ⟨0, _⟩ => ⟨((((i 0).val * 32 + (i 1).val) * 32 + (i 2).val) * 8192 + (i 3).val) / 8192, by have h0 : (i 0).val < 4 := (i 0).isLt; have h1 : (i 1).val < 32 := (i 1).isLt; have h2 : (i 2).val < 32 := (i 2).isLt; have h3 : (i 3).val < 8192 := (i 3).isLt; show ((((i 0).val * 32 + (i 1).val) * 32 + (i 2).val) * 8192 + (i 3).val) / 8192 < 4096; omega⟩
  | ⟨1, _⟩ => ⟨((((i 0).val * 32 + (i 1).val) * 32 + (i 2).val) * 8192 + (i 3).val) % 8192, by have h0 : (i 0).val < 4 := (i 0).isLt; have h1 : (i 1).val < 32 := (i 1).isLt; have h2 : (i 2).val < 32 := (i 2).isLt; have h3 : (i 3).val < 8192 := (i 3).isLt; show ((((i 0).val * 32 + (i 1).val) * 32 + (i 2).val) * 8192 + (i 3).val) % 8192 < 8192; omega⟩
theorem val_main_v56_apply (x0 : (⟨S4x256x32x32, .f32⟩ : BufTy).Contents (Elt F)) (x1 : (⟨S8192x256, .f32⟩ : BufTy).Contents (Elt F)) (i : S4x32x32x8192.Idx) :
    val_main_v56 (F := F) x0 x1 i = val_main_v15 (F := F) x0 x1 (idx_main_v56 i) := by
  unfold val_main_v56
  generalize val_main_v15 (F := F) x0 x1 = y
  exact shapeCast_apply y shapeCasts_S4096x8192_S4x32x32x8192 i (idx_main_v56 i)
    (by rewrite [Shape.rowMajor_val_two, Shape.rowMajor_val_four]; have h0 : (i 0).val < 4 := (i 0).isLt; have h1 : (i 1).val < 32 := (i 1).isLt; have h2 : (i 2).val < 32 := (i 2).isLt; have h3 : (i 3).val < 8192 := (i 3).isLt; show ((((i 0).val * 32 + (i 1).val) * 32 + (i 2).val) * 8192 + (i 3).val) / 8192 * 8192 + ((((i 0).val * 32 + (i 1).val) * 32 + (i 2).val) * 8192 + (i 3).val) % 8192 = (((i 0).val * 32 + (i 1).val) * 32 + (i 2).val) * 8192 + (i 3).val; omega)

-- %57 = stablehlo.multiply %55, %56 : tensor<4x32x32x8192xf32>
def val_main_v57 (x0 : (⟨S4x256x32x32, .f32⟩ : BufTy).Contents (Elt F)) (x1 : (⟨S8192x256, .f32⟩ : BufTy).Contents (Elt F)) : (⟨S4x32x32x8192, .f32⟩ : BufTy).Contents (Elt F) :=
  mulf (val_main_v55 (F := F) x0 x1) (val_main_v56 (F := F) x0 x1)
theorem val_main_v57_apply (x0 : (⟨S4x256x32x32, .f32⟩ : BufTy).Contents (Elt F)) (x1 : (⟨S8192x256, .f32⟩ : BufTy).Contents (Elt F)) (i : S4x32x32x8192.Idx) :
    val_main_v57 (F := F) x0 x1 i = FloatOps.mulf (val_main_v55 (F := F) x0 x1 i) (val_main_v56 (F := F) x0 x1 i) := rfl

-- %cst_13 = stablehlo.constant dense<0.000000e+00> : tensor<f32>
def val_main_cst_13 : (⟨S_, .f32⟩ : BufTy).Contents (Elt F) :=
  constant S_ .f32 0x00000000#32
theorem val_main_cst_13_apply (i : S_.Idx) :
    val_main_cst_13 (F := F) i = FloatOps.ofBits .f32 0x00000000#32 := rfl

-- %58 = stablehlo.reduce(%57 init: %cst_13) applies stablehlo.add across dimensions = [1, 2, 3] : (tensor<4x32x32x8192xf32>, tensor<f32>) -> tensor<4xf32> {
def val_main_v58 (x0 : (⟨S4x256x32x32, .f32⟩ : BufTy).Contents (Elt F)) (x1 : (⟨S8192x256, .f32⟩ : BufTy).Contents (Elt F)) : (⟨S4, .f32⟩ : BufTy).Contents (Elt F) :=
  Host.reduceAdd (val_main_v57 (F := F) x0 x1) (val_main_cst_13 (F := F)) reducesTo_S4x32x32x8192_S4_d1_2_3 h_S_

-- %cst_14 = stablehlo.constant dense<0.000000e+00> : tensor<f32>
def val_main_cst_14 : (⟨S_, .f32⟩ : BufTy).Contents (Elt F) :=
  constant S_ .f32 0x00000000#32
theorem val_main_cst_14_apply (i : S_.Idx) :
    val_main_cst_14 (F := F) i = FloatOps.ofBits .f32 0x00000000#32 := rfl

-- %59 = stablehlo.reduce(%58 init: %cst_14) applies stablehlo.add across dimensions = [0] : (tensor<4xf32>, tensor<f32>) -> tensor<f32> {
def val_main_v59 (x0 : (⟨S4x256x32x32, .f32⟩ : BufTy).Contents (Elt F)) (x1 : (⟨S8192x256, .f32⟩ : BufTy).Contents (Elt F)) : (⟨S_, .f32⟩ : BufTy).Contents (Elt F) :=
  Host.reduceAdd (val_main_v58 (F := F) x0 x1) (val_main_cst_14 (F := F)) reducesTo_S4_S_d0 h_S_
/-- Stated at `F := Ideal`, where the host's float sum is this sum; at a bit-exact instance it is an opaque function of its operand. -/
theorem val_main_v59_apply (x0 : (⟨S4x256x32x32, .f32⟩ : BufTy).Contents (Elt Ideal)) (x1 : (⟨S8192x256, .f32⟩ : BufTy).Contents (Elt Ideal)) (i : S_.Idx) :
    val_main_v59 (F := Ideal) x0 x1 i = (val_main_cst_14 (F := Ideal)) (Shape.Idx.first h_S_) + ∑ j : S4.Idx, (val_main_v58 (F := Ideal) x0 x1) j := by
  unfold val_main_v59
  generalize val_main_v58 (F := Ideal) x0 x1 = y0
  simp only [Host.reduceAdd, Ideal.hostReduceAdd_def]
  exact Ideal.hostReduceAdd_total reducesTo_S4_S_d0 (fun b => b.elim0) y0 _ i

-- %cst_15 = stablehlo.constant dense<4.000000e+00> : tensor<f32>
def val_main_cst_15 : (⟨S_, .f32⟩ : BufTy).Contents (Elt F) :=
  constant S_ .f32 0x40800000#32
theorem val_main_cst_15_apply (i : S_.Idx) :
    val_main_cst_15 (F := F) i = FloatOps.ofBits .f32 0x40800000#32 := rfl

-- %60 = stablehlo.divide %59, %cst_15 : tensor<f32>
def val_main_v60 (x0 : (⟨S4x256x32x32, .f32⟩ : BufTy).Contents (Elt F)) (x1 : (⟨S8192x256, .f32⟩ : BufTy).Contents (Elt F)) : (⟨S_, .f32⟩ : BufTy).Contents (Elt F) :=
  Host.divf (val_main_v59 (F := F) x0 x1) (val_main_cst_15 (F := F))
theorem val_main_v60_apply (x0 : (⟨S4x256x32x32, .f32⟩ : BufTy).Contents (Elt F)) (x1 : (⟨S8192x256, .f32⟩ : BufTy).Contents (Elt F)) (i : S_.Idx) :
    val_main_v60 (F := F) x0 x1 i = FloatOps.hostDivf (val_main_v59 (F := F) x0 x1 i) (val_main_cst_15 (F := F) i) := rfl

-- %61 = stablehlo.transpose %34, dims = [0, 3, 1, 2] : (tensor<4x32x32x256xf32>) -> tensor<4x256x32x32xf32>
def val_main_v61 (x0 : (⟨S4x256x32x32, .f32⟩ : BufTy).Contents (Elt F)) (x1 : (⟨S8192x256, .f32⟩ : BufTy).Contents (Elt F)) (x2 : (⟨S4096x8192, .f32⟩ : BufTy).Contents (Elt F)) : (⟨S4x256x32x32, .f32⟩ : BufTy).Contents (Elt F) :=
  transpose S4x256x32x32 [0, 3, 1, 2] (val_main_v34 (F := F) x0 x1 x2) transposes_S4x32x32x256_S4x256x32x32_0_3_1_2
abbrev idx_main_v61 (i : S4x256x32x32.Idx) : S4x32x32x256.Idx := fun a => match a with
  | ⟨0, _⟩ => ⟨(i 0).val, (i 0).isLt⟩
  | ⟨1, _⟩ => ⟨(i 2).val, (i 2).isLt⟩
  | ⟨2, _⟩ => ⟨(i 3).val, (i 3).isLt⟩
  | ⟨3, _⟩ => ⟨(i 1).val, (i 1).isLt⟩
theorem val_main_v61_apply (x0 : (⟨S4x256x32x32, .f32⟩ : BufTy).Contents (Elt F)) (x1 : (⟨S8192x256, .f32⟩ : BufTy).Contents (Elt F)) (x2 : (⟨S4096x8192, .f32⟩ : BufTy).Contents (Elt F)) (i : S4x256x32x32.Idx) :
    val_main_v61 (F := F) x0 x1 x2 i = val_main_v34 (F := F) x0 x1 x2 (idx_main_v61 i) := by
  unfold val_main_v61
  generalize val_main_v34 (F := F) x0 x1 x2 = y
  exact transpose_apply [0, 3, 1, 2] y transposes_S4x32x32x256_S4x256x32x32_0_3_1_2 i (idx_main_v61 i) (fun b => match b with
    | ⟨0, _⟩ => rfl
    | ⟨1, _⟩ => rfl
    | ⟨2, _⟩ => rfl
    | ⟨3, _⟩ => rfl)

end Cert.ReferenceIdeal.Read

end
-- ==== Proof.RefRun.lean ====
/- The reference's run: @main as the list of its host operations, and every weakly fair execution
   ends with each result at its stage of the arguments (RefRead.lean), the arguments
   unchanged. The text follows the form of the library's generated run modules; only the argmax
   operation, whose function has an index parameter of its own, is written by hand. -/
module

public import proofs.«01_k».proof.Proof.Gen.ReferenceIdeal
public import proofs.«01_k».proof.Proof.RefRead
public import Idealize.ShloMosaic.Lib.StableHlo.RunRead

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- @main's 83 operations, in order (a called function's operations stand in its call's place, spelt `TRef.…`). -/
abbrev ops : List (HloOp τ sig (Elt F)) :=
  [ unary main_arg0 main_v0 ((transpose S4x32x32x256 [0, 2, 3, 1] · transposes_S4x256x32x32_S4x32x32x256_0_2_3_1) : (⟨S4x256x32x32, .f32⟩ : BufTy).Contents (Elt F) → (⟨S4x32x32x256, .f32⟩ : BufTy).Contents (Elt F)),
    reshape main_v0 main_v1 (rfl : (.f32 : EltTy) = .f32) shapeCasts_S4x32x32x256_S4096x256,
    binary main_arg1 main_arg1 main_v2 (mulf : (⟨S8192x256, .f32⟩ : BufTy).Contents (Elt F) → (⟨S8192x256, .f32⟩ : BufTy).Contents (Elt F) → (⟨S8192x256, .f32⟩ : BufTy).Contents (Elt F)),
    nullary main_cst (constant S_ .f32 0x00000000#32),
    binary main_v2 main_cst main_v3 ((fun x v => Host.reduceAdd x v reducesTo_S8192x256_S8192_d1 h_S_) : (⟨S8192x256, .f32⟩ : BufTy).Contents (Elt F) → (⟨S_, .f32⟩ : BufTy).Contents (Elt F) → (⟨S8192, .f32⟩ : BufTy).Contents (Elt F)),
    binary main_v1 main_v1 main_v4 (mulf : (⟨S4096x256, .f32⟩ : BufTy).Contents (Elt F) → (⟨S4096x256, .f32⟩ : BufTy).Contents (Elt F) → (⟨S4096x256, .f32⟩ : BufTy).Contents (Elt F)),
    nullary main_cst_0 (constant S_ .f32 0x00000000#32),
    binary main_v4 main_cst_0 main_v5 ((fun x v => Host.reduceAdd x v reducesTo_S4096x256_S4096_d1 h_S_) : (⟨S4096x256, .f32⟩ : BufTy).Contents (Elt F) → (⟨S_, .f32⟩ : BufTy).Contents (Elt F) → (⟨S4096, .f32⟩ : BufTy).Contents (Elt F)),
    unary main_v5 main_v6 (broadcastInDim S4096x1 ![0] bcast_S4096_S4096x1_0 : (⟨S4096, .f32⟩ : BufTy).Contents (Elt F) → (⟨S4096x1, .f32⟩ : BufTy).Contents (Elt F)),
    unary main_v3 main_v7 (broadcastInDim S1x8192 ![1] bcast_S8192_S1x8192_1 : (⟨S8192, .f32⟩ : BufTy).Contents (Elt F) → (⟨S1x8192, .f32⟩ : BufTy).Contents (Elt F)),
    unary main_v7 main_v8 (broadcastInDim S4096x8192 ![0, 1] bcast_S1x8192_S4096x8192_0_1 : (⟨S1x8192, .f32⟩ : BufTy).Contents (Elt F) → (⟨S4096x8192, .f32⟩ : BufTy).Contents (Elt F)),
    unary main_v6 main_v9 (broadcastInDim S4096x8192 ![0, 1] bcast_S4096x1_S4096x8192_0_1 : (⟨S4096x1, .f32⟩ : BufTy).Contents (Elt F) → (⟨S4096x8192, .f32⟩ : BufTy).Contents (Elt F)),
    binary main_v8 main_v9 main_v10 (addf : (⟨S4096x8192, .f32⟩ : BufTy).Contents (Elt F) → (⟨S4096x8192, .f32⟩ : BufTy).Contents (Elt F) → (⟨S4096x8192, .f32⟩ : BufTy).Contents (Elt F)),
    unary main_arg1 main_v11 ((transpose S256x8192 [1, 0] · transposes_S8192x256_S256x8192_1_0) : (⟨S8192x256, .f32⟩ : BufTy).Contents (Elt F) → (⟨S256x8192, .f32⟩ : BufTy).Contents (Elt F)),
    binary main_v1 main_v11 main_v12 ((fun l r => Host.dotGeneral dot_S4096x256_S256x8192_S4096x8192_1_0_0_1_n_n none l r) : (⟨S4096x256, .f32⟩ : BufTy).Contents (Elt F) → (⟨S256x8192, .f32⟩ : BufTy).Contents (Elt F) → (⟨S4096x8192, .f32⟩ : BufTy).Contents (Elt F)),
    nullary main_cst_1 (constant S_ .f32 0x40000000#32),
    unary main_cst_1 main_v13 (broadcastInDim S4096x8192 ![] bcast_S_S4096x8192 : (⟨S_, .f32⟩ : BufTy).Contents (Elt F) → (⟨S4096x8192, .f32⟩ : BufTy).Contents (Elt F)),
    binary main_v13 main_v12 main_v14 (mulf : (⟨S4096x8192, .f32⟩ : BufTy).Contents (Elt F) → (⟨S4096x8192, .f32⟩ : BufTy).Contents (Elt F) → (⟨S4096x8192, .f32⟩ : BufTy).Contents (Elt F)),
    binary main_v10 main_v14 main_v15 (subf : (⟨S4096x8192, .f32⟩ : BufTy).Contents (Elt F) → (⟨S4096x8192, .f32⟩ : BufTy).Contents (Elt F) → (⟨S4096x8192, .f32⟩ : BufTy).Contents (Elt F)),
    unary main_v15 main_v16 (Host.negf : (⟨S4096x8192, .f32⟩ : BufTy).Contents (Elt F) → (⟨S4096x8192, .f32⟩ : BufTy).Contents (Elt F)),
    binary main_v16 main_arg2 main_v17 (addf : (⟨S4096x8192, .f32⟩ : BufTy).Contents (Elt F) → (⟨S4096x8192, .f32⟩ : BufTy).Contents (Elt F) → (⟨S4096x8192, .f32⟩ : BufTy).Contents (Elt F)),
    nullary main_cst_2 (constant S_ .f32 0x3F000000#32),
    unary main_cst_2 main_v18 (broadcastInDim S4096x8192 ![] bcast_S_S4096x8192 : (⟨S_, .f32⟩ : BufTy).Contents (Elt F) → (⟨S4096x8192, .f32⟩ : BufTy).Contents (Elt F)),
    binary main_v17 main_v18 main_v19 (Host.divf : (⟨S4096x8192, .f32⟩ : BufTy).Contents (Elt F) → (⟨S4096x8192, .f32⟩ : BufTy).Contents (Elt F) → (⟨S4096x8192, .f32⟩ : BufTy).Contents (Elt F)),
    nullary main_cst_3 (constant S_ .f32 0xFF800000#32),
    binary main_v19 main_cst_3 main_v20 ((fun x v => Host.reduce FloatOps.maximumf x v reducesTo_S4096x8192_S4096_d1 h_S_) : (⟨S4096x8192, .f32⟩ : BufTy).Contents (Elt F) → (⟨S_, .f32⟩ : BufTy).Contents (Elt F) → (⟨S4096, .f32⟩ : BufTy).Contents (Elt F)),
    nullary main_cst_4 (constant S_ .f32 0xFF800000#32),
    unary main_cst_4 main_v21 (broadcastInDim S4096 ![] bcast_S_S4096 : (⟨S_, .f32⟩ : BufTy).Contents (Elt F) → (⟨S4096, .f32⟩ : BufTy).Contents (Elt F)),
    binary main_v21 main_v20 main_v22 (maximumf : (⟨S4096, .f32⟩ : BufTy).Contents (Elt F) → (⟨S4096, .f32⟩ : BufTy).Contents (Elt F) → (⟨S4096, .f32⟩ : BufTy).Contents (Elt F)),
    unary main_v22 main_v23 (broadcastInDim S4096x1 ![0] bcast_S4096_S4096x1_0 : (⟨S4096, .f32⟩ : BufTy).Contents (Elt F) → (⟨S4096x1, .f32⟩ : BufTy).Contents (Elt F)),
    unary main_v23 main_v24 (broadcastInDim S4096x8192 ![0, 1] bcast_S4096x1_S4096x8192_0_1 : (⟨S4096x1, .f32⟩ : BufTy).Contents (Elt F) → (⟨S4096x8192, .f32⟩ : BufTy).Contents (Elt F)),
    binary main_v19 main_v24 main_v25 (subf : (⟨S4096x8192, .f32⟩ : BufTy).Contents (Elt F) → (⟨S4096x8192, .f32⟩ : BufTy).Contents (Elt F) → (⟨S4096x8192, .f32⟩ : BufTy).Contents (Elt F)),
    unary main_v25 main_v26 (Host.exp : (⟨S4096x8192, .f32⟩ : BufTy).Contents (Elt F) → (⟨S4096x8192, .f32⟩ : BufTy).Contents (Elt F)),
    nullary main_cst_5 (constant S_ .f32 0x00000000#32),
    binary main_v26 main_cst_5 main_v27 ((fun x v => Host.reduceAdd x v reducesTo_S4096x8192_S4096_d1 h_S_) : (⟨S4096x8192, .f32⟩ : BufTy).Contents (Elt F) → (⟨S_, .f32⟩ : BufTy).Contents (Elt F) → (⟨S4096, .f32⟩ : BufTy).Contents (Elt F)),
    unary main_v27 main_v28 (broadcastInDim S4096x1 ![0] bcast_S4096_S4096x1_0 : (⟨S4096, .f32⟩ : BufTy).Contents (Elt F) → (⟨S4096x1, .f32⟩ : BufTy).Contents (Elt F)),
    unary main_v28 main_v29 (broadcastInDim S4096x8192 ![0, 1] bcast_S4096x1_S4096x8192_0_1 : (⟨S4096x1, .f32⟩ : BufTy).Contents (Elt F) → (⟨S4096x8192, .f32⟩ : BufTy).Contents (Elt F)),
    binary main_v26 main_v29 main_v30 (Host.divf : (⟨S4096x8192, .f32⟩ : BufTy).Contents (Elt F) → (⟨S4096x8192, .f32⟩ : BufTy).Contents (Elt F) → (⟨S4096x8192, .f32⟩ : BufTy).Contents (Elt F)),
    TRef.nullary (TRef.of (T := ⟨S4096x8192, .i32⟩) main_call0_v0) (iotaInDim S4096x8192 32 1),
    TRef.nullary (TRef.of (T := ⟨S_, .f32⟩) main_call0_cst) (constant S_ .f32 0xFF800000#32),
    TRef.nullary (TRef.of (T := ⟨S_, .i32⟩) main_call0_c) (constantI S_ 32 0#32),
    TRef.quaternary (TRef.of (T := ⟨S4096x8192, .f32⟩) main_v30) (TRef.of (T := ⟨S4096x8192, .i32⟩) main_call0_v0) (TRef.of (T := ⟨S_, .f32⟩) main_call0_cst) (TRef.of (T := ⟨S_, .i32⟩) main_call0_c) (TRef.of (T := ⟨S4096, .f32⟩) main_call0_v1_0) (fun x y u v j => (Host.argReduce reducer_argmax_f32_i32 x y u v reducesTo_S4096x8192_S4096_d1 h_S_ j).1),
    TRef.quaternary (TRef.of (T := ⟨S4096x8192, .f32⟩) main_v30) (TRef.of (T := ⟨S4096x8192, .i32⟩) main_call0_v0) (TRef.of (T := ⟨S_, .f32⟩) main_call0_cst) (TRef.of (T := ⟨S_, .i32⟩) main_call0_c) (TRef.of (T := ⟨S4096, .i32⟩) main_v31) (fun x y u v j => (Host.argReduce reducer_argmax_f32_i32 x y u v reducesTo_S4096x8192_S4096_d1 h_S_ j).2),
    reshape main_v31 main_v32 (rfl : (.i32 : EltTy) = .i32) shapeCasts_S4096_S4x32x32,
    binary main_v30 main_arg1 main_v33 ((fun l r => Host.dotGeneral dot_S4096x8192_S8192x256_S4096x256_1_0_0_1_n_n none l r) : (⟨S4096x8192, .f32⟩ : BufTy).Contents (Elt F) → (⟨S8192x256, .f32⟩ : BufTy).Contents (Elt F) → (⟨S4096x256, .f32⟩ : BufTy).Contents (Elt F)),
    reshape main_v33 main_v34 (rfl : (.f32 : EltTy) = .f32) shapeCasts_S4096x256_S4x32x32x256,
    nullary main_cst_6 (constant S_ .f32 0xFF800000#32),
    binary main_v16 main_cst_6 main_v35 ((fun x v => Host.reduce FloatOps.maximumf x v reducesTo_S4096x8192_S4096_d1 h_S_) : (⟨S4096x8192, .f32⟩ : BufTy).Contents (Elt F) → (⟨S_, .f32⟩ : BufTy).Contents (Elt F) → (⟨S4096, .f32⟩ : BufTy).Contents (Elt F)),
    nullary main_cst_7 (constant S_ .f32 0xFF800000#32),
    unary main_cst_7 main_v36 (broadcastInDim S4096 ![] bcast_S_S4096 : (⟨S_, .f32⟩ : BufTy).Contents (Elt F) → (⟨S4096, .f32⟩ : BufTy).Contents (Elt F)),
    binary main_v36 main_v35 main_v37 (maximumf : (⟨S4096, .f32⟩ : BufTy).Contents (Elt F) → (⟨S4096, .f32⟩ : BufTy).Contents (Elt F) → (⟨S4096, .f32⟩ : BufTy).Contents (Elt F)),
    unary main_v37 main_v38 (broadcastInDim S4096x1 ![0] bcast_S4096_S4096x1_0 : (⟨S4096, .f32⟩ : BufTy).Contents (Elt F) → (⟨S4096x1, .f32⟩ : BufTy).Contents (Elt F)),
    unary main_v38 main_v39 (broadcastInDim S4096x8192 ![0, 1] bcast_S4096x1_S4096x8192_0_1 : (⟨S4096x1, .f32⟩ : BufTy).Contents (Elt F) → (⟨S4096x8192, .f32⟩ : BufTy).Contents (Elt F)),
    binary main_v16 main_v39 main_v40 (subf : (⟨S4096x8192, .f32⟩ : BufTy).Contents (Elt F) → (⟨S4096x8192, .f32⟩ : BufTy).Contents (Elt F) → (⟨S4096x8192, .f32⟩ : BufTy).Contents (Elt F)),
    unary main_v40 main_v41 (Host.exp : (⟨S4096x8192, .f32⟩ : BufTy).Contents (Elt F) → (⟨S4096x8192, .f32⟩ : BufTy).Contents (Elt F)),
    nullary main_cst_8 (constant S_ .f32 0x00000000#32),
    binary main_v41 main_cst_8 main_v42 ((fun x v => Host.reduceAdd x v reducesTo_S4096x8192_S4096_d1 h_S_) : (⟨S4096x8192, .f32⟩ : BufTy).Contents (Elt F) → (⟨S_, .f32⟩ : BufTy).Contents (Elt F) → (⟨S4096, .f32⟩ : BufTy).Contents (Elt F)),
    unary main_v42 main_v43 (broadcastInDim S4096x1 ![0] bcast_S4096_S4096x1_0 : (⟨S4096, .f32⟩ : BufTy).Contents (Elt F) → (⟨S4096x1, .f32⟩ : BufTy).Contents (Elt F)),
    unary main_v43 main_v44 (broadcastInDim S4096x8192 ![0, 1] bcast_S4096x1_S4096x8192_0_1 : (⟨S4096x1, .f32⟩ : BufTy).Contents (Elt F) → (⟨S4096x8192, .f32⟩ : BufTy).Contents (Elt F)),
    binary main_v41 main_v44 main_v45 (Host.divf : (⟨S4096x8192, .f32⟩ : BufTy).Contents (Elt F) → (⟨S4096x8192, .f32⟩ : BufTy).Contents (Elt F) → (⟨S4096x8192, .f32⟩ : BufTy).Contents (Elt F)),
    nullary main_cst_9 (constant S_ .f32 0x46000000#32),
    unary main_cst_9 main_v46 (Host.log : (⟨S_, .f32⟩ : BufTy).Contents (Elt F) → (⟨S_, .f32⟩ : BufTy).Contents (Elt F)),
    unary main_v45 main_v47 (Host.log : (⟨S4096x8192, .f32⟩ : BufTy).Contents (Elt F) → (⟨S4096x8192, .f32⟩ : BufTy).Contents (Elt F)),
    unary main_v46 main_v48 (broadcastInDim S4096x8192 ![] bcast_S_S4096x8192 : (⟨S_, .f32⟩ : BufTy).Contents (Elt F) → (⟨S4096x8192, .f32⟩ : BufTy).Contents (Elt F)),
    binary main_v47 main_v48 main_v49 (addf : (⟨S4096x8192, .f32⟩ : BufTy).Contents (Elt F) → (⟨S4096x8192, .f32⟩ : BufTy).Contents (Elt F) → (⟨S4096x8192, .f32⟩ : BufTy).Contents (Elt F)),
    binary main_v45 main_v49 main_v50 (mulf : (⟨S4096x8192, .f32⟩ : BufTy).Contents (Elt F) → (⟨S4096x8192, .f32⟩ : BufTy).Contents (Elt F) → (⟨S4096x8192, .f32⟩ : BufTy).Contents (Elt F)),
    reshape main_v50 main_v51 (rfl : (.f32 : EltTy) = .f32) shapeCasts_S4096x8192_S4x32x32x8192,
    nullary main_cst_10 (constant S_ .f32 0x00000000#32),
    binary main_v51 main_cst_10 main_v52 ((fun x v => Host.reduceAdd x v reducesTo_S4x32x32x8192_S4_d1_2_3 h_S_) : (⟨S4x32x32x8192, .f32⟩ : BufTy).Contents (Elt F) → (⟨S_, .f32⟩ : BufTy).Contents (Elt F) → (⟨S4, .f32⟩ : BufTy).Contents (Elt F)),
    nullary main_cst_11 (constant S_ .f32 0x00000000#32),
    binary main_v52 main_cst_11 main_v53 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)),
    nullary main_cst_12 (constant S_ .f32 0x40800000#32),
    binary main_v53 main_cst_12 main_v54 (Host.divf : (⟨S_, .f32⟩ : BufTy).Contents (Elt F) → (⟨S_, .f32⟩ : BufTy).Contents (Elt F) → (⟨S_, .f32⟩ : BufTy).Contents (Elt F)),
    reshape main_v45 main_v55 (rfl : (.f32 : EltTy) = .f32) shapeCasts_S4096x8192_S4x32x32x8192,
    reshape main_v15 main_v56 (rfl : (.f32 : EltTy) = .f32) shapeCasts_S4096x8192_S4x32x32x8192,
    binary main_v55 main_v56 main_v57 (mulf : (⟨S4x32x32x8192, .f32⟩ : BufTy).Contents (Elt F) → (⟨S4x32x32x8192, .f32⟩ : BufTy).Contents (Elt F) → (⟨S4x32x32x8192, .f32⟩ : BufTy).Contents (Elt F)),
    nullary main_cst_13 (constant S_ .f32 0x00000000#32),
    binary main_v57 main_cst_13 main_v58 ((fun x v => Host.reduceAdd x v reducesTo_S4x32x32x8192_S4_d1_2_3 h_S_) : (⟨S4x32x32x8192, .f32⟩ : BufTy).Contents (Elt F) → (⟨S_, .f32⟩ : BufTy).Contents (Elt F) → (⟨S4, .f32⟩ : BufTy).Contents (Elt F)),
    nullary main_cst_14 (constant S_ .f32 0x00000000#32),
    binary main_v58 main_cst_14 main_v59 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)),
    nullary main_cst_15 (constant S_ .f32 0x40800000#32),
    binary main_v59 main_cst_15 main_v60 (Host.divf : (⟨S_, .f32⟩ : BufTy).Contents (Elt F) → (⟨S_, .f32⟩ : BufTy).Contents (Elt F) → (⟨S_, .f32⟩ : BufTy).Contents (Elt F)),
    unary main_v34 main_v61 ((transpose S4x256x32x32 [0, 3, 1, 2] · transposes_S4x32x32x256_S4x256x32x32_0_3_1_2) : (⟨S4x32x32x256, .f32⟩ : BufTy).Contents (Elt F) → (⟨S4x256x32x32, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., binary_bufs_sub .., nullary_bufs_sub .., binary_bufs_sub .., binary_bufs_sub .., nullary_bufs_sub .., binary_bufs_sub .., unary_bufs_sub .., unary_bufs_sub .., unary_bufs_sub .., unary_bufs_sub .., binary_bufs_sub .., unary_bufs_sub .., binary_bufs_sub .., nullary_bufs_sub .., unary_bufs_sub .., binary_bufs_sub .., binary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., nullary_bufs_sub .., nullary_bufs_sub .., quaternary_bufs_sub .., quaternary_bufs_sub .., reshape_bufs_sub .., binary_bufs_sub .., reshape_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., unary_bufs_sub .., unary_bufs_sub .., unary_bufs_sub .., binary_bufs_sub .., binary_bufs_sub .., reshape_bufs_sub .., nullary_bufs_sub .., binary_bufs_sub .., nullary_bufs_sub .., binary_bufs_sub .., nullary_bufs_sub .., binary_bufs_sub .., reshape_bufs_sub .., reshape_bufs_sub .., binary_bufs_sub .., nullary_bufs_sub .., binary_bufs_sub .., nullary_bufs_sub .., binary_bufs_sub .., nullary_bufs_sub .., binary_bufs_sub .., unary_bufs_sub ..⟩

/-- The buffers the operations write, in order. -/
abbrev outs : List (Ref sig .tc) :=
  [main_v0, main_v1, main_v2, main_cst, main_v3, main_v4, main_cst_0, main_v5, main_v6, main_v7, main_v8, main_v9, main_v10, main_v11, main_v12, main_cst_1, main_v13, main_v14, main_v15, main_v16, main_v17, main_cst_2, main_v18, main_v19, main_cst_3, main_v20, main_cst_4, main_v21, main_v22, main_v23, main_v24, main_v25, main_v26, main_cst_5, main_v27, main_v28, main_v29, main_v30, main_call0_v0, main_call0_cst, main_call0_c, main_call0_v1_0, main_v31, main_v32, main_v33, main_v34, main_cst_6, main_v35, main_cst_7, main_v36, main_v37, main_v38, main_v39, main_v40, main_v41, main_cst_8, main_v42, main_v43, main_v44, main_v45, main_cst_9, main_v46, main_v47, main_v48, main_v49, main_v50, main_v51, main_cst_10, main_v52, main_cst_11, main_v53, main_cst_12, main_v54, main_v55, main_v56, main_v57, main_cst_13, main_v58, main_cst_14, main_v59, main_cst_15, main_v60, main_v61]

set_option maxRecDepth 8192 in
/-- Each operation writes its own result buffer and nothing else. -/
theorem ops_writes : (ops : List (HloOp τ sig (Elt F))).map HloOp.writes = outs.map fun w => {Proc.devRef (τ := τ) .tc w} := rfl

theorem part_writes (i : ℕ) : ((ops : List (HloOp τ sig (Elt F))).drop i).map HloOp.writes = (outs.drop i).map fun w => {Proc.devRef (τ := τ) .tc w} := by
  rw [List.map_drop, List.map_drop, ops_writes]

theorem after_split (l₁ l₂ : List (HloOp τ sig (Elt F))) (V : Valuation τ sig (Elt F)) :
    after (l₁ ++ l₂) V = after l₂ (after l₁ V) := by
  induction l₁ generalizing V with
  | nil => rfl
  | cons op l ih => exact ih _

/-- A buffer that no operation from position `i` on writes holds at the end what it held before position `i`. -/
theorem keep (V : Valuation τ sig (Elt F)) (i : ℕ) (r : Ref sig .tc) (h : r ∉ outs.drop i) :
    upto ops V i (Proc.devRef .tc r) = after ops V (Proc.devRef .tc r) := by
  have e := after_split (ops.take i) (ops.drop i) V
  rw [List.take_append_drop] at e
  rw [e, after_of_writes_sub _ _ (forall_writes_sub_of_map (part_writes i)) h]
  rfl

/-- The buffer an operation writes holds at the end what that operation left in it. -/
theorem last (V : Valuation τ sig (Elt F)) (i : ℕ) (op : HloOp τ sig (Elt F)) (r : Ref sig .tc)
    (hop : (ops : List (HloOp τ sig (Elt F)))[i]? = some op) (h : r ∉ outs.drop (i + 1)) :
    after ops V (Proc.devRef .tc r) = op.result (upto ops V i) (Proc.devRef .tc r) := by
  obtain ⟨hi, rfl⟩ := List.getElem?_eq_some_iff.mp hop
  exact after_last_write (outs.drop (i + 1)) (List.drop_eq_getElem_cons hi) (part_writes (i + 1)) h V

/-- The arguments keep their contents. -/
theorem at_arg (V : Valuation τ sig (Elt F)) (r : Ref sig .tc) (h : r ∉ outs) :
    after ops V (Proc.devRef .tc r) = V (Proc.devRef .tc r) :=
  after_of_writes_sub _ _ (forall_writes_sub_of_map ops_writes) h

theorem at_main_v0 (V : Valuation τ sig (Elt F)) : after ops V (Proc.devRef .tc main_v0) = Read.val_main_v0 (F := F) (V (Proc.devRef .tc main_arg0)) := by
  rw [last V 0 _ main_v0 rfl (by decide), unary_result', keep V 0 main_arg0 (by decide), at_arg V main_arg0 (by decide)]; unfold Read.val_main_v0; rfl

theorem at_main_v1 (V : Valuation τ sig (Elt F)) : after ops V (Proc.devRef .tc main_v1) = Read.val_main_v1 (F := F) (V (Proc.devRef .tc main_arg0)) := by
  rw [last V 1 _ main_v1 rfl (by decide), reshape_result', keep V 1 main_v0 (by decide), at_main_v0 V]; unfold Read.val_main_v1; generalize Read.val_main_v0 (F := F) (V (Proc.devRef .tc main_arg0)) = y0; rfl

theorem at_main_v2 (V : Valuation τ sig (Elt F)) : after ops V (Proc.devRef .tc main_v2) = Read.val_main_v2 (F := F) (V (Proc.devRef .tc main_arg1)) := by
  rw [last V 2 _ main_v2 rfl (by decide), binary_result', keep V 2 main_arg1 (by decide), at_arg V main_arg1 (by decide)]; unfold Read.val_main_v2; rfl

theorem at_main_cst (V : Valuation τ sig (Elt F)) : after ops V (Proc.devRef .tc main_cst) = Read.val_main_cst (F := F)  := by
  rw [last V 3 _ main_cst rfl (by decide), nullary_result']; unfold Read.val_main_cst; rfl

theorem at_main_v3 (V : Valuation τ sig (Elt F)) : after ops V (Proc.devRef .tc main_v3) = Read.val_main_v3 (F := F) (V (Proc.devRef .tc main_arg1)) := by
  rw [last V 4 _ main_v3 rfl (by decide), binary_result', keep V 4 main_v2 (by decide), keep V 4 main_cst (by decide), at_main_v2 V, at_main_cst V]; unfold Read.val_main_v3; generalize Read.val_main_v2 (F := F) (V (Proc.devRef .tc main_arg1)) = y0; generalize Read.val_main_cst (F := F)  = y1; rfl

theorem at_main_v4 (V : Valuation τ sig (Elt F)) : after ops V (Proc.devRef .tc main_v4) = Read.val_main_v4 (F := F) (V (Proc.devRef .tc main_arg0)) := by
  rw [last V 5 _ main_v4 rfl (by decide), binary_result', keep V 5 main_v1 (by decide), at_main_v1 V]; unfold Read.val_main_v4; generalize Read.val_main_v1 (F := F) (V (Proc.devRef .tc main_arg0)) = y0; rfl

theorem at_main_cst_0 (V : Valuation τ sig (Elt F)) : after ops V (Proc.devRef .tc main_cst_0) = Read.val_main_cst_0 (F := F)  := by
  rw [last V 6 _ main_cst_0 rfl (by decide), nullary_result']; unfold Read.val_main_cst_0; rfl

theorem at_main_v5 (V : Valuation τ sig (Elt F)) : after ops V (Proc.devRef .tc main_v5) = Read.val_main_v5 (F := F) (V (Proc.devRef .tc main_arg0)) := by
  rw [last V 7 _ main_v5 rfl (by decide), binary_result', keep V 7 main_v4 (by decide), keep V 7 main_cst_0 (by decide), at_main_v4 V, at_main_cst_0 V]; unfold Read.val_main_v5; generalize Read.val_main_v4 (F := F) (V (Proc.devRef .tc main_arg0)) = y0; generalize Read.val_main_cst_0 (F := F)  = y1; rfl

theorem at_main_v6 (V : Valuation τ sig (Elt F)) : after ops V (Proc.devRef .tc main_v6) = Read.val_main_v6 (F := F) (V (Proc.devRef .tc main_arg0)) := by
  rw [last V 8 _ main_v6 rfl (by decide), unary_result', keep V 8 main_v5 (by decide), at_main_v5 V]; unfold Read.val_main_v6; generalize Read.val_main_v5 (F := F) (V (Proc.devRef .tc main_arg0)) = y0; rfl

theorem at_main_v7 (V : Valuation τ sig (Elt F)) : after ops V (Proc.devRef .tc main_v7) = Read.val_main_v7 (F := F) (V (Proc.devRef .tc main_arg1)) := by
  rw [last V 9 _ main_v7 rfl (by decide), unary_result', keep V 9 main_v3 (by decide), at_main_v3 V]; unfold Read.val_main_v7; generalize Read.val_main_v3 (F := F) (V (Proc.devRef .tc main_arg1)) = y0; rfl

theorem at_main_v8 (V : Valuation τ sig (Elt F)) : after ops V (Proc.devRef .tc main_v8) = Read.val_main_v8 (F := F) (V (Proc.devRef .tc main_arg1)) := by
  rw [last V 10 _ main_v8 rfl (by decide), unary_result', keep V 10 main_v7 (by decide), at_main_v7 V]; unfold Read.val_main_v8; generalize Read.val_main_v7 (F := F) (V (Proc.devRef .tc main_arg1)) = y0; rfl

theorem at_main_v9 (V : Valuation τ sig (Elt F)) : after ops V (Proc.devRef .tc main_v9) = Read.val_main_v9 (F := F) (V (Proc.devRef .tc main_arg0)) := by
  rw [last V 11 _ main_v9 rfl (by decide), unary_result', keep V 11 main_v6 (by decide), at_main_v6 V]; unfold Read.val_main_v9; generalize Read.val_main_v6 (F := F) (V (Proc.devRef .tc main_arg0)) = y0; rfl

theorem at_main_v10 (V : Valuation τ sig (Elt F)) : after ops V (Proc.devRef .tc main_v10) = Read.val_main_v10 (F := F) (V (Proc.devRef .tc main_arg0)) (V (Proc.devRef .tc main_arg1)) := by
  rw [last V 12 _ main_v10 rfl (by decide), binary_result', keep V 12 main_v8 (by decide), keep V 12 main_v9 (by decide), at_main_v8 V, at_main_v9 V]; unfold Read.val_main_v10; generalize Read.val_main_v8 (F := F) (V (Proc.devRef .tc main_arg1)) = y0; generalize Read.val_main_v9 (F := F) (V (Proc.devRef .tc main_arg0)) = y1; rfl

theorem at_main_v11 (V : Valuation τ sig (Elt F)) : after ops V (Proc.devRef .tc main_v11) = Read.val_main_v11 (F := F) (V (Proc.devRef .tc main_arg1)) := by
  rw [last V 13 _ main_v11 rfl (by decide), unary_result', keep V 13 main_arg1 (by decide), at_arg V main_arg1 (by decide)]; unfold Read.val_main_v11; rfl

theorem at_main_v12 (V : Valuation τ sig (Elt F)) : after ops V (Proc.devRef .tc main_v12) = Read.val_main_v12 (F := F) (V (Proc.devRef .tc main_arg0)) (V (Proc.devRef .tc main_arg1)) := by
  rw [last V 14 _ main_v12 rfl (by decide), binary_result', keep V 14 main_v1 (by decide), keep V 14 main_v11 (by decide), at_main_v1 V, at_main_v11 V]; unfold Read.val_main_v12; generalize Read.val_main_v1 (F := F) (V (Proc.devRef .tc main_arg0)) = y0; generalize Read.val_main_v11 (F := F) (V (Proc.devRef .tc main_arg1)) = y1; rfl

theorem at_main_cst_1 (V : Valuation τ sig (Elt F)) : after ops V (Proc.devRef .tc main_cst_1) = Read.val_main_cst_1 (F := F)  := by
  rw [last V 15 _ main_cst_1 rfl (by decide), nullary_result']; unfold Read.val_main_cst_1; rfl

theorem at_main_v13 (V : Valuation τ sig (Elt F)) : after ops V (Proc.devRef .tc main_v13) = Read.val_main_v13 (F := F)  := by
  rw [last V 16 _ main_v13 rfl (by decide), unary_result', keep V 16 main_cst_1 (by decide), at_main_cst_1 V]; unfold Read.val_main_v13; generalize Read.val_main_cst_1 (F := F)  = y0; rfl

theorem at_main_v14 (V : Valuation τ sig (Elt F)) : after ops V (Proc.devRef .tc main_v14) = Read.val_main_v14 (F := F) (V (Proc.devRef .tc main_arg0)) (V (Proc.devRef .tc main_arg1)) := by
  rw [last V 17 _ main_v14 rfl (by decide), binary_result', keep V 17 main_v13 (by decide), keep V 17 main_v12 (by decide), at_main_v13 V, at_main_v12 V]; unfold Read.val_main_v14; generalize Read.val_main_v13 (F := F)  = y0; generalize Read.val_main_v12 (F := F) (V (Proc.devRef .tc main_arg0)) (V (Proc.devRef .tc main_arg1)) = y1; rfl

theorem at_main_v15 (V : Valuation τ sig (Elt F)) : after ops V (Proc.devRef .tc main_v15) = Read.val_main_v15 (F := F) (V (Proc.devRef .tc main_arg0)) (V (Proc.devRef .tc main_arg1)) := by
  rw [last V 18 _ main_v15 rfl (by decide), binary_result', keep V 18 main_v10 (by decide), keep V 18 main_v14 (by decide), at_main_v10 V, at_main_v14 V]; unfold Read.val_main_v15; generalize Read.val_main_v10 (F := F) (V (Proc.devRef .tc main_arg0)) (V (Proc.devRef .tc main_arg1)) = y0; generalize Read.val_main_v14 (F := F) (V (Proc.devRef .tc main_arg0)) (V (Proc.devRef .tc main_arg1)) = y1; rfl

theorem at_main_v16 (V : Valuation τ sig (Elt F)) : after ops V (Proc.devRef .tc main_v16) = Read.val_main_v16 (F := F) (V (Proc.devRef .tc main_arg0)) (V (Proc.devRef .tc main_arg1)) := by
  rw [last V 19 _ main_v16 rfl (by decide), unary_result', keep V 19 main_v15 (by decide), at_main_v15 V]; unfold Read.val_main_v16; generalize Read.val_main_v15 (F := F) (V (Proc.devRef .tc main_arg0)) (V (Proc.devRef .tc main_arg1)) = y0; rfl

theorem at_main_v17 (V : Valuation τ sig (Elt F)) : after ops V (Proc.devRef .tc main_v17) = Read.val_main_v17 (F := F) (V (Proc.devRef .tc main_arg0)) (V (Proc.devRef .tc main_arg1)) (V (Proc.devRef .tc main_arg2)) := by
  rw [last V 20 _ main_v17 rfl (by decide), binary_result', keep V 20 main_v16 (by decide), keep V 20 main_arg2 (by decide), at_main_v16 V, at_arg V main_arg2 (by decide)]; unfold Read.val_main_v17; generalize Read.val_main_v16 (F := F) (V (Proc.devRef .tc main_arg0)) (V (Proc.devRef .tc main_arg1)) = y0; rfl

theorem at_main_cst_2 (V : Valuation τ sig (Elt F)) : after ops V (Proc.devRef .tc main_cst_2) = Read.val_main_cst_2 (F := F)  := by
  rw [last V 21 _ main_cst_2 rfl (by decide), nullary_result']; unfold Read.val_main_cst_2; rfl

theorem at_main_v18 (V : Valuation τ sig (Elt F)) : after ops V (Proc.devRef .tc main_v18) = Read.val_main_v18 (F := F)  := by
  rw [last V 22 _ main_v18 rfl (by decide), unary_result', keep V 22 main_cst_2 (by decide), at_main_cst_2 V]; unfold Read.val_main_v18; generalize Read.val_main_cst_2 (F := F)  = y0; rfl

theorem at_main_v19 (V : Valuation τ sig (Elt F)) : after ops V (Proc.devRef .tc main_v19) = Read.val_main_v19 (F := F) (V (Proc.devRef .tc main_arg0)) (V (Proc.devRef .tc main_arg1)) (V (Proc.devRef .tc main_arg2)) := by
  rw [last V 23 _ main_v19 rfl (by decide), binary_result', keep V 23 main_v17 (by decide), keep V 23 main_v18 (by decide), at_main_v17 V, at_main_v18 V]; unfold Read.val_main_v19; generalize Read.val_main_v17 (F := F) (V (Proc.devRef .tc main_arg0)) (V (Proc.devRef .tc main_arg1)) (V (Proc.devRef .tc main_arg2)) = y0; generalize Read.val_main_v18 (F := F)  = y1; rfl

theorem at_main_cst_3 (V : Valuation τ sig (Elt F)) : after ops V (Proc.devRef .tc main_cst_3) = Read.val_main_cst_3 (F := F)  := by
  rw [last V 24 _ main_cst_3 rfl (by decide), nullary_result']; unfold Read.val_main_cst_3; rfl

theorem at_main_v20 (V : Valuation τ sig (Elt F)) : after ops V (Proc.devRef .tc main_v20) = Read.val_main_v20 (F := F) (V (Proc.devRef .tc main_arg0)) (V (Proc.devRef .tc main_arg1)) (V (Proc.devRef .tc main_arg2)) := by
  rw [last V 25 _ main_v20 rfl (by decide), binary_result', keep V 25 main_v19 (by decide), keep V 25 main_cst_3 (by decide), at_main_v19 V, at_main_cst_3 V]; unfold Read.val_main_v20; generalize Read.val_main_v19 (F := F) (V (Proc.devRef .tc main_arg0)) (V (Proc.devRef .tc main_arg1)) (V (Proc.devRef .tc main_arg2)) = y0; generalize Read.val_main_cst_3 (F := F)  = y1; rfl

theorem at_main_cst_4 (V : Valuation τ sig (Elt F)) : after ops V (Proc.devRef .tc main_cst_4) = Read.val_main_cst_4 (F := F)  := by
  rw [last V 26 _ main_cst_4 rfl (by decide), nullary_result']; unfold Read.val_main_cst_4; rfl

theorem at_main_v21 (V : Valuation τ sig (Elt F)) : after ops V (Proc.devRef .tc main_v21) = Read.val_main_v21 (F := F)  := by
  rw [last V 27 _ main_v21 rfl (by decide), unary_result', keep V 27 main_cst_4 (by decide), at_main_cst_4 V]; unfold Read.val_main_v21; generalize Read.val_main_cst_4 (F := F)  = y0; rfl

theorem at_main_v22 (V : Valuation τ sig (Elt F)) : after ops V (Proc.devRef .tc main_v22) = Read.val_main_v22 (F := F) (V (Proc.devRef .tc main_arg0)) (V (Proc.devRef .tc main_arg1)) (V (Proc.devRef .tc main_arg2)) := by
  rw [last V 28 _ main_v22 rfl (by decide), binary_result', keep V 28 main_v21 (by decide), keep V 28 main_v20 (by decide), at_main_v21 V, at_main_v20 V]; unfold Read.val_main_v22; generalize Read.val_main_v21 (F := F)  = y0; generalize Read.val_main_v20 (F := F) (V (Proc.devRef .tc main_arg0)) (V (Proc.devRef .tc main_arg1)) (V (Proc.devRef .tc main_arg2)) = y1; rfl

theorem at_main_v23 (V : Valuation τ sig (Elt F)) : after ops V (Proc.devRef .tc main_v23) = Read.val_main_v23 (F := F) (V (Proc.devRef .tc main_arg0)) (V (Proc.devRef .tc main_arg1)) (V (Proc.devRef .tc main_arg2)) := by
  rw [last V 29 _ main_v23 rfl (by decide), unary_result', keep V 29 main_v22 (by decide), at_main_v22 V]; unfold Read.val_main_v23; generalize Read.val_main_v22 (F := F) (V (Proc.devRef .tc main_arg0)) (V (Proc.devRef .tc main_arg1)) (V (Proc.devRef .tc main_arg2)) = y0; rfl

theorem at_main_v24 (V : Valuation τ sig (Elt F)) : after ops V (Proc.devRef .tc main_v24) = Read.val_main_v24 (F := F) (V (Proc.devRef .tc main_arg0)) (V (Proc.devRef .tc main_arg1)) (V (Proc.devRef .tc main_arg2)) := by
  rw [last V 30 _ main_v24 rfl (by decide), unary_result', keep V 30 main_v23 (by decide), at_main_v23 V]; unfold Read.val_main_v24; generalize Read.val_main_v23 (F := F) (V (Proc.devRef .tc main_arg0)) (V (Proc.devRef .tc main_arg1)) (V (Proc.devRef .tc main_arg2)) = y0; rfl

theorem at_main_v25 (V : Valuation τ sig (Elt F)) : after ops V (Proc.devRef .tc main_v25) = Read.val_main_v25 (F := F) (V (Proc.devRef .tc main_arg0)) (V (Proc.devRef .tc main_arg1)) (V (Proc.devRef .tc main_arg2)) := by
  rw [last V 31 _ main_v25 rfl (by decide), binary_result', keep V 31 main_v19 (by decide), keep V 31 main_v24 (by decide), at_main_v19 V, at_main_v24 V]; unfold Read.val_main_v25; generalize Read.val_main_v19 (F := F) (V (Proc.devRef .tc main_arg0)) (V (Proc.devRef .tc main_arg1)) (V (Proc.devRef .tc main_arg2)) = y0; generalize Read.val_main_v24 (F := F) (V (Proc.devRef .tc main_arg0)) (V (Proc.devRef .tc main_arg1)) (V (Proc.devRef .tc main_arg2)) = y1; rfl

theorem at_main_v26 (V : Valuation τ sig (Elt F)) : after ops V (Proc.devRef .tc main_v26) = Read.val_main_v26 (F := F) (V (Proc.devRef .tc main_arg0)) (V (Proc.devRef .tc main_arg1)) (V (Proc.devRef .tc main_arg2)) := by
  rw [last V 32 _ main_v26 rfl (by decide), unary_result', keep V 32 main_v25 (by decide), at_main_v25 V]; unfold Read.val_main_v26; generalize Read.val_main_v25 (F := F) (V (Proc.devRef .tc main_arg0)) (V (Proc.devRef .tc main_arg1)) (V (Proc.devRef .tc main_arg2)) = y0; rfl

theorem at_main_cst_5 (V : Valuation τ sig (Elt F)) : after ops V (Proc.devRef .tc main_cst_5) = Read.val_main_cst_5 (F := F)  := by
  rw [last V 33 _ main_cst_5 rfl (by decide), nullary_result']; unfold Read.val_main_cst_5; rfl

theorem at_main_v27 (V : Valuation τ sig (Elt F)) : after ops V (Proc.devRef .tc main_v27) = Read.val_main_v27 (F := F) (V (Proc.devRef .tc main_arg0)) (V (Proc.devRef .tc main_arg1)) (V (Proc.devRef .tc main_arg2)) := by
  rw [last V 34 _ main_v27 rfl (by decide), binary_result', keep V 34 main_v26 (by decide), keep V 34 main_cst_5 (by decide), at_main_v26 V, at_main_cst_5 V]; unfold Read.val_main_v27; generalize Read.val_main_v26 (F := F) (V (Proc.devRef .tc main_arg0)) (V (Proc.devRef .tc main_arg1)) (V (Proc.devRef .tc main_arg2)) = y0; generalize Read.val_main_cst_5 (F := F)  = y1; rfl

theorem at_main_v28 (V : Valuation τ sig (Elt F)) : after ops V (Proc.devRef .tc main_v28) = Read.val_main_v28 (F := F) (V (Proc.devRef .tc main_arg0)) (V (Proc.devRef .tc main_arg1)) (V (Proc.devRef .tc main_arg2)) := by
  rw [last V 35 _ main_v28 rfl (by decide), unary_result', keep V 35 main_v27 (by decide), at_main_v27 V]; unfold Read.val_main_v28; generalize Read.val_main_v27 (F := F) (V (Proc.devRef .tc main_arg0)) (V (Proc.devRef .tc main_arg1)) (V (Proc.devRef .tc main_arg2)) = y0; rfl

theorem at_main_v29 (V : Valuation τ sig (Elt F)) : after ops V (Proc.devRef .tc main_v29) = Read.val_main_v29 (F := F) (V (Proc.devRef .tc main_arg0)) (V (Proc.devRef .tc main_arg1)) (V (Proc.devRef .tc main_arg2)) := by
  rw [last V 36 _ main_v29 rfl (by decide), unary_result', keep V 36 main_v28 (by decide), at_main_v28 V]; unfold Read.val_main_v29; generalize Read.val_main_v28 (F := F) (V (Proc.devRef .tc main_arg0)) (V (Proc.devRef .tc main_arg1)) (V (Proc.devRef .tc main_arg2)) = y0; rfl

theorem at_main_v30 (V : Valuation τ sig (Elt F)) : after ops V (Proc.devRef .tc main_v30) = Read.val_main_v30 (F := F) (V (Proc.devRef .tc main_arg0)) (V (Proc.devRef .tc main_arg1)) (V (Proc.devRef .tc main_arg2)) := by
  rw [last V 37 _ main_v30 rfl (by decide), binary_result', keep V 37 main_v26 (by decide), keep V 37 main_v29 (by decide), at_main_v26 V, at_main_v29 V]; unfold Read.val_main_v30; generalize Read.val_main_v26 (F := F) (V (Proc.devRef .tc main_arg0)) (V (Proc.devRef .tc main_arg1)) (V (Proc.devRef .tc main_arg2)) = y0; generalize Read.val_main_v29 (F := F) (V (Proc.devRef .tc main_arg0)) (V (Proc.devRef .tc main_arg1)) (V (Proc.devRef .tc main_arg2)) = y1; rfl

theorem at_main_call0_v0 (V : Valuation τ sig (Elt F)) : after ops V (Proc.devRef .tc main_call0_v0) = Read.val_main_call0_v0 (F := F)  := by
  rw [last V 38 _ main_call0_v0 rfl (by decide), nullary_result']; unfold Read.val_main_call0_v0; rfl

theorem at_main_call0_cst (V : Valuation τ sig (Elt F)) : after ops V (Proc.devRef .tc main_call0_cst) = Read.val_main_call0_cst (F := F)  := by
  rw [last V 39 _ main_call0_cst rfl (by decide), nullary_result']; unfold Read.val_main_call0_cst; rfl

theorem at_main_call0_c (V : Valuation τ sig (Elt F)) : after ops V (Proc.devRef .tc main_call0_c) = Read.val_main_call0_c (F := F)  := by
  rw [last V 40 _ main_call0_c rfl (by decide), nullary_result']; unfold Read.val_main_call0_c; rfl

theorem at_main_call0_v1_0 (V : Valuation τ sig (Elt F)) : after ops V (Proc.devRef .tc main_call0_v1_0) = Read.val_main_call0_v1_0 (F := F) (V (Proc.devRef .tc main_arg0)) (V (Proc.devRef .tc main_arg1)) (V (Proc.devRef .tc main_arg2)) := by
  rw [last V 41 _ main_call0_v1_0 rfl (by decide), quaternary_result', keep V 41 main_v30 (by decide), keep V 41 main_call0_v0 (by decide), keep V 41 main_call0_cst (by decide), keep V 41 main_call0_c (by decide), at_main_v30 V, at_main_call0_v0 V, at_main_call0_cst V, at_main_call0_c V]; unfold Read.val_main_call0_v1_0; generalize Read.val_main_v30 (F := F) (V (Proc.devRef .tc main_arg0)) (V (Proc.devRef .tc main_arg1)) (V (Proc.devRef .tc main_arg2)) = y0; generalize Read.val_main_call0_v0 (F := F)  = y1; generalize Read.val_main_call0_cst (F := F)  = y2; generalize Read.val_main_call0_c (F := F)  = y3; rfl

theorem at_main_v31 (V : Valuation τ sig (Elt F)) : after ops V (Proc.devRef .tc main_v31) = Read.val_main_v31 (F := F) (V (Proc.devRef .tc main_arg0)) (V (Proc.devRef .tc main_arg1)) (V (Proc.devRef .tc main_arg2)) := by
  rw [last V 42 _ main_v31 rfl (by decide), quaternary_result', keep V 42 main_v30 (by decide), keep V 42 main_call0_v0 (by decide), keep V 42 main_call0_cst (by decide), keep V 42 main_call0_c (by decide), at_main_v30 V, at_main_call0_v0 V, at_main_call0_cst V, at_main_call0_c V]; unfold Read.val_main_v31; generalize Read.val_main_v30 (F := F) (V (Proc.devRef .tc main_arg0)) (V (Proc.devRef .tc main_arg1)) (V (Proc.devRef .tc main_arg2)) = y0; generalize Read.val_main_call0_v0 (F := F)  = y1; generalize Read.val_main_call0_cst (F := F)  = y2; generalize Read.val_main_call0_c (F := F)  = y3; rfl

/-- The reshape of the indices, read as a reshape of the contents. -/
theorem reshape_v32 (V : Valuation τ sig (Elt F)) : (reshape (τ := τ) (Val := Elt F) main_v31 main_v32 (rfl : (.i32 : EltTy) = .i32) shapeCasts_S4096_S4x32x32).result V (Proc.devRef .tc main_v32) = shapeCast S4x32x32 (V (Proc.devRef .tc main_v31)) shapeCasts_S4096_S4x32x32 := by
  rw [reshape_result']
  generalize V (Proc.devRef .tc main_v31) = x
  change (fun i => (shapeCast S4x32x32 x shapeCasts_S4096_S4x32x32 : (⟨S4x32x32, .i32⟩ : BufTy).Contents (Elt F)) i) = _
  rfl

theorem at_main_v32 (V : Valuation τ sig (Elt F)) : after ops V (Proc.devRef .tc main_v32) = Read.val_main_v32 (F := F) (V (Proc.devRef .tc main_arg0)) (V (Proc.devRef .tc main_arg1)) (V (Proc.devRef .tc main_arg2)) := by
  rw [last V 43 _ main_v32 rfl (by decide), reshape_v32, keep V 43 main_v31 (by decide), at_main_v31 V, Read.val_main_v32]

theorem at_main_v33 (V : Valuation τ sig (Elt F)) : after ops V (Proc.devRef .tc main_v33) = Read.val_main_v33 (F := F) (V (Proc.devRef .tc main_arg0)) (V (Proc.devRef .tc main_arg1)) (V (Proc.devRef .tc main_arg2)) := by
  rw [last V 44 _ main_v33 rfl (by decide), binary_result', keep V 44 main_v30 (by decide), keep V 44 main_arg1 (by decide), at_main_v30 V, at_arg V main_arg1 (by decide)]; unfold Read.val_main_v33; generalize Read.val_main_v30 (F := F) (V (Proc.devRef .tc main_arg0)) (V (Proc.devRef .tc main_arg1)) (V (Proc.devRef .tc main_arg2)) = y0; rfl

theorem at_main_v34 (V : Valuation τ sig (Elt F)) : after ops V (Proc.devRef .tc main_v34) = Read.val_main_v34 (F := F) (V (Proc.devRef .tc main_arg0)) (V (Proc.devRef .tc main_arg1)) (V (Proc.devRef .tc main_arg2)) := by
  rw [last V 45 _ main_v34 rfl (by decide), reshape_result', keep V 45 main_v33 (by decide), at_main_v33 V]; unfold Read.val_main_v34; generalize Read.val_main_v33 (F := F) (V (Proc.devRef .tc main_arg0)) (V (Proc.devRef .tc main_arg1)) (V (Proc.devRef .tc main_arg2)) = y0; rfl

theorem at_main_cst_6 (V : Valuation τ sig (Elt F)) : after ops V (Proc.devRef .tc main_cst_6) = Read.val_main_cst_6 (F := F)  := by
  rw [last V 46 _ main_cst_6 rfl (by decide), nullary_result']; unfold Read.val_main_cst_6; rfl

theorem at_main_v35 (V : Valuation τ sig (Elt F)) : after ops V (Proc.devRef .tc main_v35) = Read.val_main_v35 (F := F) (V (Proc.devRef .tc main_arg0)) (V (Proc.devRef .tc main_arg1)) := by
  rw [last V 47 _ main_v35 rfl (by decide), binary_result', keep V 47 main_v16 (by decide), keep V 47 main_cst_6 (by decide), at_main_v16 V, at_main_cst_6 V]; unfold Read.val_main_v35; generalize Read.val_main_v16 (F := F) (V (Proc.devRef .tc main_arg0)) (V (Proc.devRef .tc main_arg1)) = y0; generalize Read.val_main_cst_6 (F := F)  = y1; rfl

theorem at_main_cst_7 (V : Valuation τ sig (Elt F)) : after ops V (Proc.devRef .tc main_cst_7) = Read.val_main_cst_7 (F := F)  := by
  rw [last V 48 _ main_cst_7 rfl (by decide), nullary_result']; unfold Read.val_main_cst_7; rfl

theorem at_main_v36 (V : Valuation τ sig (Elt F)) : after ops V (Proc.devRef .tc main_v36) = Read.val_main_v36 (F := F)  := by
  rw [last V 49 _ main_v36 rfl (by decide), unary_result', keep V 49 main_cst_7 (by decide), at_main_cst_7 V]; unfold Read.val_main_v36; generalize Read.val_main_cst_7 (F := F)  = y0; rfl

theorem at_main_v37 (V : Valuation τ sig (Elt F)) : after ops V (Proc.devRef .tc main_v37) = Read.val_main_v37 (F := F) (V (Proc.devRef .tc main_arg0)) (V (Proc.devRef .tc main_arg1)) := by
  rw [last V 50 _ main_v37 rfl (by decide), binary_result', keep V 50 main_v36 (by decide), keep V 50 main_v35 (by decide), at_main_v36 V, at_main_v35 V]; unfold Read.val_main_v37; generalize Read.val_main_v36 (F := F)  = y0; generalize Read.val_main_v35 (F := F) (V (Proc.devRef .tc main_arg0)) (V (Proc.devRef .tc main_arg1)) = y1; rfl

theorem at_main_v38 (V : Valuation τ sig (Elt F)) : after ops V (Proc.devRef .tc main_v38) = Read.val_main_v38 (F := F) (V (Proc.devRef .tc main_arg0)) (V (Proc.devRef .tc main_arg1)) := by
  rw [last V 51 _ main_v38 rfl (by decide), unary_result', keep V 51 main_v37 (by decide), at_main_v37 V]; unfold Read.val_main_v38; generalize Read.val_main_v37 (F := F) (V (Proc.devRef .tc main_arg0)) (V (Proc.devRef .tc main_arg1)) = y0; rfl

theorem at_main_v39 (V : Valuation τ sig (Elt F)) : after ops V (Proc.devRef .tc main_v39) = Read.val_main_v39 (F := F) (V (Proc.devRef .tc main_arg0)) (V (Proc.devRef .tc main_arg1)) := by
  rw [last V 52 _ main_v39 rfl (by decide), unary_result', keep V 52 main_v38 (by decide), at_main_v38 V]; unfold Read.val_main_v39; generalize Read.val_main_v38 (F := F) (V (Proc.devRef .tc main_arg0)) (V (Proc.devRef .tc main_arg1)) = y0; rfl

theorem at_main_v40 (V : Valuation τ sig (Elt F)) : after ops V (Proc.devRef .tc main_v40) = Read.val_main_v40 (F := F) (V (Proc.devRef .tc main_arg0)) (V (Proc.devRef .tc main_arg1)) := by
  rw [last V 53 _ main_v40 rfl (by decide), binary_result', keep V 53 main_v16 (by decide), keep V 53 main_v39 (by decide), at_main_v16 V, at_main_v39 V]; unfold Read.val_main_v40; generalize Read.val_main_v16 (F := F) (V (Proc.devRef .tc main_arg0)) (V (Proc.devRef .tc main_arg1)) = y0; generalize Read.val_main_v39 (F := F) (V (Proc.devRef .tc main_arg0)) (V (Proc.devRef .tc main_arg1)) = y1; rfl

theorem at_main_v41 (V : Valuation τ sig (Elt F)) : after ops V (Proc.devRef .tc main_v41) = Read.val_main_v41 (F := F) (V (Proc.devRef .tc main_arg0)) (V (Proc.devRef .tc main_arg1)) := by
  rw [last V 54 _ main_v41 rfl (by decide), unary_result', keep V 54 main_v40 (by decide), at_main_v40 V]; unfold Read.val_main_v41; generalize Read.val_main_v40 (F := F) (V (Proc.devRef .tc main_arg0)) (V (Proc.devRef .tc main_arg1)) = y0; rfl

theorem at_main_cst_8 (V : Valuation τ sig (Elt F)) : after ops V (Proc.devRef .tc main_cst_8) = Read.val_main_cst_8 (F := F)  := by
  rw [last V 55 _ main_cst_8 rfl (by decide), nullary_result']; unfold Read.val_main_cst_8; rfl

theorem at_main_v42 (V : Valuation τ sig (Elt F)) : after ops V (Proc.devRef .tc main_v42) = Read.val_main_v42 (F := F) (V (Proc.devRef .tc main_arg0)) (V (Proc.devRef .tc main_arg1)) := by
  rw [last V 56 _ main_v42 rfl (by decide), binary_result', keep V 56 main_v41 (by decide), keep V 56 main_cst_8 (by decide), at_main_v41 V, at_main_cst_8 V]; unfold Read.val_main_v42; generalize Read.val_main_v41 (F := F) (V (Proc.devRef .tc main_arg0)) (V (Proc.devRef .tc main_arg1)) = y0; generalize Read.val_main_cst_8 (F := F)  = y1; rfl

theorem at_main_v43 (V : Valuation τ sig (Elt F)) : after ops V (Proc.devRef .tc main_v43) = Read.val_main_v43 (F := F) (V (Proc.devRef .tc main_arg0)) (V (Proc.devRef .tc main_arg1)) := by
  rw [last V 57 _ main_v43 rfl (by decide), unary_result', keep V 57 main_v42 (by decide), at_main_v42 V]; unfold Read.val_main_v43; generalize Read.val_main_v42 (F := F) (V (Proc.devRef .tc main_arg0)) (V (Proc.devRef .tc main_arg1)) = y0; rfl

theorem at_main_v44 (V : Valuation τ sig (Elt F)) : after ops V (Proc.devRef .tc main_v44) = Read.val_main_v44 (F := F) (V (Proc.devRef .tc main_arg0)) (V (Proc.devRef .tc main_arg1)) := by
  rw [last V 58 _ main_v44 rfl (by decide), unary_result', keep V 58 main_v43 (by decide), at_main_v43 V]; unfold Read.val_main_v44; generalize Read.val_main_v43 (F := F) (V (Proc.devRef .tc main_arg0)) (V (Proc.devRef .tc main_arg1)) = y0; rfl

theorem at_main_v45 (V : Valuation τ sig (Elt F)) : after ops V (Proc.devRef .tc main_v45) = Read.val_main_v45 (F := F) (V (Proc.devRef .tc main_arg0)) (V (Proc.devRef .tc main_arg1)) := by
  rw [last V 59 _ main_v45 rfl (by decide), binary_result', keep V 59 main_v41 (by decide), keep V 59 main_v44 (by decide), at_main_v41 V, at_main_v44 V]; unfold Read.val_main_v45; generalize Read.val_main_v41 (F := F) (V (Proc.devRef .tc main_arg0)) (V (Proc.devRef .tc main_arg1)) = y0; generalize Read.val_main_v44 (F := F) (V (Proc.devRef .tc main_arg0)) (V (Proc.devRef .tc main_arg1)) = y1; rfl

theorem at_main_cst_9 (V : Valuation τ sig (Elt F)) : after ops V (Proc.devRef .tc main_cst_9) = Read.val_main_cst_9 (F := F)  := by
  rw [last V 60 _ main_cst_9 rfl (by decide), nullary_result']; unfold Read.val_main_cst_9; rfl

theorem at_main_v46 (V : Valuation τ sig (Elt F)) : after ops V (Proc.devRef .tc main_v46) = Read.val_main_v46 (F := F)  := by
  rw [last V 61 _ main_v46 rfl (by decide), unary_result', keep V 61 main_cst_9 (by decide), at_main_cst_9 V]; unfold Read.val_main_v46; generalize Read.val_main_cst_9 (F := F)  = y0; rfl

theorem at_main_v47 (V : Valuation τ sig (Elt F)) : after ops V (Proc.devRef .tc main_v47) = Read.val_main_v47 (F := F) (V (Proc.devRef .tc main_arg0)) (V (Proc.devRef .tc main_arg1)) := by
  rw [last V 62 _ main_v47 rfl (by decide), unary_result', keep V 62 main_v45 (by decide), at_main_v45 V]; unfold Read.val_main_v47; generalize Read.val_main_v45 (F := F) (V (Proc.devRef .tc main_arg0)) (V (Proc.devRef .tc main_arg1)) = y0; rfl

theorem at_main_v48 (V : Valuation τ sig (Elt F)) : after ops V (Proc.devRef .tc main_v48) = Read.val_main_v48 (F := F)  := by
  rw [last V 63 _ main_v48 rfl (by decide), unary_result', keep V 63 main_v46 (by decide), at_main_v46 V]; unfold Read.val_main_v48; generalize Read.val_main_v46 (F := F)  = y0; rfl

theorem at_main_v49 (V : Valuation τ sig (Elt F)) : after ops V (Proc.devRef .tc main_v49) = Read.val_main_v49 (F := F) (V (Proc.devRef .tc main_arg0)) (V (Proc.devRef .tc main_arg1)) := by
  rw [last V 64 _ main_v49 rfl (by decide), binary_result', keep V 64 main_v47 (by decide), keep V 64 main_v48 (by decide), at_main_v47 V, at_main_v48 V]; unfold Read.val_main_v49; generalize Read.val_main_v47 (F := F) (V (Proc.devRef .tc main_arg0)) (V (Proc.devRef .tc main_arg1)) = y0; generalize Read.val_main_v48 (F := F)  = y1; rfl

theorem at_main_v50 (V : Valuation τ sig (Elt F)) : after ops V (Proc.devRef .tc main_v50) = Read.val_main_v50 (F := F) (V (Proc.devRef .tc main_arg0)) (V (Proc.devRef .tc main_arg1)) := by
  rw [last V 65 _ main_v50 rfl (by decide), binary_result', keep V 65 main_v45 (by decide), keep V 65 main_v49 (by decide), at_main_v45 V, at_main_v49 V]; unfold Read.val_main_v50; generalize Read.val_main_v45 (F := F) (V (Proc.devRef .tc main_arg0)) (V (Proc.devRef .tc main_arg1)) = y0; generalize Read.val_main_v49 (F := F) (V (Proc.devRef .tc main_arg0)) (V (Proc.devRef .tc main_arg1)) = y1; rfl

theorem at_main_v51 (V : Valuation τ sig (Elt F)) : after ops V (Proc.devRef .tc main_v51) = Read.val_main_v51 (F := F) (V (Proc.devRef .tc main_arg0)) (V (Proc.devRef .tc main_arg1)) := by
  rw [last V 66 _ main_v51 rfl (by decide), reshape_result', keep V 66 main_v50 (by decide), at_main_v50 V]; unfold Read.val_main_v51; generalize Read.val_main_v50 (F := F) (V (Proc.devRef .tc main_arg0)) (V (Proc.devRef .tc main_arg1)) = y0; rfl

theorem at_main_cst_10 (V : Valuation τ sig (Elt F)) : after ops V (Proc.devRef .tc main_cst_10) = Read.val_main_cst_10 (F := F)  := by
  rw [last V 67 _ main_cst_10 rfl (by decide), nullary_result']; unfold Read.val_main_cst_10; rfl

theorem at_main_v52 (V : Valuation τ sig (Elt F)) : after ops V (Proc.devRef .tc main_v52) = Read.val_main_v52 (F := F) (V (Proc.devRef .tc main_arg0)) (V (Proc.devRef .tc main_arg1)) := by
  rw [last V 68 _ main_v52 rfl (by decide), binary_result', keep V 68 main_v51 (by decide), keep V 68 main_cst_10 (by decide), at_main_v51 V, at_main_cst_10 V]; unfold Read.val_main_v52; generalize Read.val_main_v51 (F := F) (V (Proc.devRef .tc main_arg0)) (V (Proc.devRef .tc main_arg1)) = y0; generalize Read.val_main_cst_10 (F := F)  = y1; rfl

theorem at_main_cst_11 (V : Valuation τ sig (Elt F)) : after ops V (Proc.devRef .tc main_cst_11) = Read.val_main_cst_11 (F := F)  := by
  rw [last V 69 _ main_cst_11 rfl (by decide), nullary_result']; unfold Read.val_main_cst_11; rfl

theorem at_main_v53 (V : Valuation τ sig (Elt F)) : after ops V (Proc.devRef .tc main_v53) = Read.val_main_v53 (F := F) (V (Proc.devRef .tc main_arg0)) (V (Proc.devRef .tc main_arg1)) := by
  rw [last V 70 _ main_v53 rfl (by decide), binary_result', keep V 70 main_v52 (by decide), keep V 70 main_cst_11 (by decide), at_main_v52 V, at_main_cst_11 V]; unfold Read.val_main_v53; generalize Read.val_main_v52 (F := F) (V (Proc.devRef .tc main_arg0)) (V (Proc.devRef .tc main_arg1)) = y0; generalize Read.val_main_cst_11 (F := F)  = y1; rfl

theorem at_main_cst_12 (V : Valuation τ sig (Elt F)) : after ops V (Proc.devRef .tc main_cst_12) = Read.val_main_cst_12 (F := F)  := by
  rw [last V 71 _ main_cst_12 rfl (by decide), nullary_result']; unfold Read.val_main_cst_12; rfl

theorem at_main_v54 (V : Valuation τ sig (Elt F)) : after ops V (Proc.devRef .tc main_v54) = Read.val_main_v54 (F := F) (V (Proc.devRef .tc main_arg0)) (V (Proc.devRef .tc main_arg1)) := by
  rw [last V 72 _ main_v54 rfl (by decide), binary_result', keep V 72 main_v53 (by decide), keep V 72 main_cst_12 (by decide), at_main_v53 V, at_main_cst_12 V]; unfold Read.val_main_v54; generalize Read.val_main_v53 (F := F) (V (Proc.devRef .tc main_arg0)) (V (Proc.devRef .tc main_arg1)) = y0; generalize Read.val_main_cst_12 (F := F)  = y1; rfl

theorem at_main_v55 (V : Valuation τ sig (Elt F)) : after ops V (Proc.devRef .tc main_v55) = Read.val_main_v55 (F := F) (V (Proc.devRef .tc main_arg0)) (V (Proc.devRef .tc main_arg1)) := by
  rw [last V 73 _ main_v55 rfl (by decide), reshape_result', keep V 73 main_v45 (by decide), at_main_v45 V]; unfold Read.val_main_v55; generalize Read.val_main_v45 (F := F) (V (Proc.devRef .tc main_arg0)) (V (Proc.devRef .tc main_arg1)) = y0; rfl

theorem at_main_v56 (V : Valuation τ sig (Elt F)) : after ops V (Proc.devRef .tc main_v56) = Read.val_main_v56 (F := F) (V (Proc.devRef .tc main_arg0)) (V (Proc.devRef .tc main_arg1)) := by
  rw [last V 74 _ main_v56 rfl (by decide), reshape_result', keep V 74 main_v15 (by decide), at_main_v15 V]; unfold Read.val_main_v56; generalize Read.val_main_v15 (F := F) (V (Proc.devRef .tc main_arg0)) (V (Proc.devRef .tc main_arg1)) = y0; rfl

theorem at_main_v57 (V : Valuation τ sig (Elt F)) : after ops V (Proc.devRef .tc main_v57) = Read.val_main_v57 (F := F) (V (Proc.devRef .tc main_arg0)) (V (Proc.devRef .tc main_arg1)) := by
  rw [last V 75 _ main_v57 rfl (by decide), binary_result', keep V 75 main_v55 (by decide), keep V 75 main_v56 (by decide), at_main_v55 V, at_main_v56 V]; unfold Read.val_main_v57; generalize Read.val_main_v55 (F := F) (V (Proc.devRef .tc main_arg0)) (V (Proc.devRef .tc main_arg1)) = y0; generalize Read.val_main_v56 (F := F) (V (Proc.devRef .tc main_arg0)) (V (Proc.devRef .tc main_arg1)) = y1; rfl

theorem at_main_cst_13 (V : Valuation τ sig (Elt F)) : after ops V (Proc.devRef .tc main_cst_13) = Read.val_main_cst_13 (F := F)  := by
  rw [last V 76 _ main_cst_13 rfl (by decide), nullary_result']; unfold Read.val_main_cst_13; rfl

theorem at_main_v58 (V : Valuation τ sig (Elt F)) : after ops V (Proc.devRef .tc main_v58) = Read.val_main_v58 (F := F) (V (Proc.devRef .tc main_arg0)) (V (Proc.devRef .tc main_arg1)) := by
  rw [last V 77 _ main_v58 rfl (by decide), binary_result', keep V 77 main_v57 (by decide), keep V 77 main_cst_13 (by decide), at_main_v57 V, at_main_cst_13 V]; unfold Read.val_main_v58; generalize Read.val_main_v57 (F := F) (V (Proc.devRef .tc main_arg0)) (V (Proc.devRef .tc main_arg1)) = y0; generalize Read.val_main_cst_13 (F := F)  = y1; rfl

theorem at_main_cst_14 (V : Valuation τ sig (Elt F)) : after ops V (Proc.devRef .tc main_cst_14) = Read.val_main_cst_14 (F := F)  := by
  rw [last V 78 _ main_cst_14 rfl (by decide), nullary_result']; unfold Read.val_main_cst_14; rfl

theorem at_main_v59 (V : Valuation τ sig (Elt F)) : after ops V (Proc.devRef .tc main_v59) = Read.val_main_v59 (F := F) (V (Proc.devRef .tc main_arg0)) (V (Proc.devRef .tc main_arg1)) := by
  rw [last V 79 _ main_v59 rfl (by decide), binary_result', keep V 79 main_v58 (by decide), keep V 79 main_cst_14 (by decide), at_main_v58 V, at_main_cst_14 V]; unfold Read.val_main_v59; generalize Read.val_main_v58 (F := F) (V (Proc.devRef .tc main_arg0)) (V (Proc.devRef .tc main_arg1)) = y0; generalize Read.val_main_cst_14 (F := F)  = y1; rfl

theorem at_main_cst_15 (V : Valuation τ sig (Elt F)) : after ops V (Proc.devRef .tc main_cst_15) = Read.val_main_cst_15 (F := F)  := by
  rw [last V 80 _ main_cst_15 rfl (by decide), nullary_result']; unfold Read.val_main_cst_15; rfl

theorem at_main_v60 (V : Valuation τ sig (Elt F)) : after ops V (Proc.devRef .tc main_v60) = Read.val_main_v60 (F := F) (V (Proc.devRef .tc main_arg0)) (V (Proc.devRef .tc main_arg1)) := by
  rw [last V 81 _ main_v60 rfl (by decide), binary_result', keep V 81 main_v59 (by decide), keep V 81 main_cst_15 (by decide), at_main_v59 V, at_main_cst_15 V]; unfold Read.val_main_v60; generalize Read.val_main_v59 (F := F) (V (Proc.devRef .tc main_arg0)) (V (Proc.devRef .tc main_arg1)) = y0; generalize Read.val_main_cst_15 (F := F)  = y1; rfl

theorem at_main_v61 (V : Valuation τ sig (Elt F)) : after ops V (Proc.devRef .tc main_v61) = Read.val_main_v61 (F := F) (V (Proc.devRef .tc main_arg0)) (V (Proc.devRef .tc main_arg1)) (V (Proc.devRef .tc main_arg2)) := by
  rw [last V 82 _ main_v61 rfl (by decide), unary_result', keep V 82 main_v34 (by decide), at_main_v34 V]; unfold Read.val_main_v61; generalize Read.val_main_v34 (F := F) (V (Proc.devRef .tc main_arg0)) (V (Proc.devRef .tc main_arg1)) (V (Proc.devRef .tc main_arg2)) = y0; rfl

/-- From any memory with zero counters, on every device: every weakly fair execution of @main ends with each
    result at its stage of the arguments, and with the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v61) = Read.val_main_v61 (F := F) (m ((c.tc : Thread nD τ).loc main_arg0)) (m ((c.tc : Thread nD τ).loc main_arg1)) (m ((c.tc : Thread nD τ).loc main_arg2))
      ∧ r.2.mem ((c.tc : Thread nD τ).loc main_v32) = Read.val_main_v32 (F := F) (m ((c.tc : Thread nD τ).loc main_arg0)) (m ((c.tc : Thread nD τ).loc main_arg1)) (m ((c.tc : Thread nD τ).loc main_arg2))
      ∧ r.2.mem ((c.tc : Thread nD τ).loc main_v54) = Read.val_main_v54 (F := F) (m ((c.tc : Thread nD τ).loc main_arg0)) (m ((c.tc : Thread nD τ).loc main_arg1))
      ∧ r.2.mem ((c.tc : Thread nD τ).loc main_v60) = Read.val_main_v60 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v61).trans (at_main_v61 _), (h c main_v32).trans (at_main_v32 _), (h c main_v54).trans (at_main_v54 _), (h c main_v60).trans (at_main_v60 _),
      (h c main_arg0).trans (at_arg _ main_arg0 (by decide)), (h c main_arg1).trans (at_arg _ main_arg1 (by decide)),
      (h c main_arg2).trans (at_arg _ main_arg2 (by decide))⟩)
    (run_seq scopedRefs_eq scopedSems_eq defs main (fun _ => ops) main_eq (fun _ => ops_sub) m ρ)

end Cert.ReferenceIdeal.Value

end
-- ==== Proof.Spec.lean ====
/- One row of the problem over the reals: the row of distances `d` of a token to the codewords and the row
   `a` of noisy logits; its maximum, its first maximal position, the two softmaxes, the row's KL term and its
   commitment term. Then how these rows are met as extended reals: folds of maxima and minima, sums, and the
   choice of the first largest entry by a fold over (value, position) pairs. No program occurs here. -/
module

public import proofs.«01_k».proof.Proof.Gen.ReferenceIdeal
public import Idealize.ShloMosaic.Lib.Pointwise

@[expose] public section

noncomputable section

namespace Cert.Vq

open Idealize.ShloMosaic

variable {n : ℕ} [NeZero n]

/-- The largest entry of a row. -/
def rmax (a : Fin n → ℝ) : ℝ := Finset.univ.sup' ⟨0, Finset.mem_univ _⟩ a

/-- The smallest entry of a row. -/
def rmin (d : Fin n → ℝ) : ℝ := Finset.univ.inf' ⟨0, Finset.mem_univ _⟩ d

theorem le_rmax (a : Fin n → ℝ) (k : Fin n) : a k ≤ rmax a := Finset.le_sup' a (Finset.mem_univ k)
theorem rmin_le (d : Fin n → ℝ) (k : Fin n) : rmin d ≤ d k := Finset.inf'_le d (Finset.mem_univ k)

theorem exists_rmax (a : Fin n → ℝ) : ∃ k, rmax a = a k := by
  obtain ⟨k, _, hk⟩ := Finset.exists_mem_eq_sup' (⟨0, Finset.mem_univ _⟩ : (Finset.univ : Finset (Fin n)).Nonempty) a
  exact ⟨k, hk⟩

theorem exists_rmin (d : Fin n → ℝ) : ∃ k, rmin d = d k := by
  obtain ⟨k, _, hk⟩ := Finset.exists_mem_eq_inf' (⟨0, Finset.mem_univ _⟩ : (Finset.univ : Finset (Fin n)).Nonempty) d
  exact ⟨k, hk⟩

theorem rmax_eq {a : Fin n → ℝ} {x : ℝ} (h : ∀ k, a k ≤ x) (k : Fin n) (hk : a k = x) : rmax a = x := by
  obtain ⟨j, hj⟩ := exists_rmax a
  exact le_antisymm (hj ▸ h j) (hk ▸ le_rmax a k)

theorem max_set_nonempty (a : Fin n → ℝ) : (Finset.univ.filter fun k => rmax a ≤ a k).Nonempty := by
  obtain ⟨k, hk⟩ := exists_rmax a
  exact ⟨k, Finset.mem_filter.mpr ⟨Finset.mem_univ _, hk.le⟩⟩

/-- The first position at which a row is largest. -/
def first (a : Fin n → ℝ) : Fin n := (Finset.univ.filter fun k => rmax a ≤ a k).min' (max_set_nonempty a)

theorem first_max (a : Fin n → ℝ) : rmax a ≤ a (first a) :=
  (Finset.mem_filter.mp (Finset.min'_mem _ (max_set_nonempty a))).2

theorem first_le (a : Fin n → ℝ) {k : Fin n} (h : rmax a ≤ a k) : first a ≤ k :=
  Finset.min'_le _ k (Finset.mem_filter.mpr ⟨Finset.mem_univ k, h⟩)

/-- A position above which nothing lies, and before which nothing equal, is the first maximum. -/
theorem first_eq {a : Fin n → ℝ} {k : Fin n} (h : ∀ j, a j < a k ∨ (a j = a k ∧ k ≤ j)) : first a = k := by
  have hk : rmax a = a k := rmax_eq (fun j => (h j).elim le_of_lt fun e => e.1.le) k rfl
  refine le_antisymm (first_le a hk.le) ?_
  rcases h (first a) with e | e
  · exact absurd (first_max a) (not_le.mpr (hk ▸ e))
  · exact e.2

/-- Rows ordered alike have the same first maximum. -/
theorem first_congr {a b : Fin n → ℝ} (h : ∀ i j, a i < a j ↔ b i < b j) : first b = first a := by
  refine first_eq fun j => ?_
  by_cases hj : rmax a ≤ a j
  · refine Or.inr ⟨le_antisymm ?_ ?_, first_le a hj⟩
    · exact not_lt.mp fun e => absurd ((h _ _).mpr e) (not_lt.mpr ((le_rmax a j).trans (first_max a)))
    · exact not_lt.mp fun e => absurd ((h _ _).mpr e) (not_lt.mpr ((le_rmax a _).trans hj))
  · exact Or.inl ((h _ _).mp ((not_le.mp hj).trans_le (first_max a)))

/-! ## The two softmaxes of a row -/

/-- The unnormalized weights of the softmax of `a` at temperature one half. -/
def wt (a : Fin n → ℝ) (k : Fin n) : ℝ := Real.exp ((a k - rmax a) * 2)

/-- The softmax of `a` at temperature one half. -/
def soft (a : Fin n → ℝ) (k : Fin n) : ℝ := wt a k / ∑ j, wt a j

/-- The unnormalized weights of the softmax of the negated distances. -/
def wd (d : Fin n → ℝ) (k : Fin n) : ℝ := Real.exp (rmin d - d k)

/-- The softmax of the negated distances. -/
def prob (d : Fin n → ℝ) (k : Fin n) : ℝ := wd d k / ∑ j, wd d j

/-- A token's commitment term: its mean distance under `prob`. -/
def com (d : Fin n → ℝ) : ℝ := (∑ k, wd d k * d k) / ∑ k, wd d k

/-- A token's KL term against the uniform distribution, `L` the logarithm of the number of codewords. -/
def kl (L : ℝ) (d : Fin n → ℝ) : ℝ := ((L - Real.log (∑ k, wd d k)) + rmin d) - com d

theorem wt_pos (a : Fin n → ℝ) (k : Fin n) : 0 < wt a k := Real.exp_pos _
theorem wd_pos (d : Fin n → ℝ) (k : Fin n) : 0 < wd d k := Real.exp_pos _
theorem sum_wt_pos (a : Fin n → ℝ) : 0 < ∑ j, wt a j := Finset.sum_pos (fun j _ => wt_pos a j) ⟨0, Finset.mem_univ _⟩
theorem sum_wd_pos (d : Fin n → ℝ) : 0 < ∑ j, wd d j := Finset.sum_pos (fun j _ => wd_pos d j) ⟨0, Finset.mem_univ _⟩
theorem prob_pos (d : Fin n → ℝ) (k : Fin n) : 0 < prob d k := div_pos (wd_pos d k) (sum_wd_pos d)

/-- The softmax keeps the order of the row. -/
theorem soft_lt (a : Fin n → ℝ) (i j : Fin n) : a i < a j ↔ soft a i < soft a j := by
  unfold soft
  rw [div_lt_div_iff_of_pos_right (sum_wt_pos a), wt, wt, Real.exp_lt_exp]
  constructor <;> intro h <;> linarith

theorem first_soft (a : Fin n → ℝ) : first (soft a) = first a := first_congr (soft_lt a)

/-- Weighted sums under the softmax: normalize before or after. -/
theorem sum_soft (a c : Fin n → ℝ) : ∑ k, soft a k * c k = (∑ k, wt a k * c k) / ∑ k, wt a k := by
  unfold soft
  rw [Finset.sum_div]
  exact Finset.sum_congr rfl fun k _ => by ring

theorem sum_prob (d : Fin n → ℝ) : ∑ k, prob d k * d k = com d := by
  unfold prob com
  rw [Finset.sum_div]
  exact Finset.sum_congr rfl fun k _ => by ring

theorem sum_prob_one (d : Fin n → ℝ) : ∑ k, prob d k = 1 := by
  unfold prob
  rw [← Finset.sum_div, div_self (sum_wd_pos d).ne']

/-- The KL term summed over the codewords, in closed form. -/
theorem sum_kl (L : ℝ) (d : Fin n → ℝ) : ∑ k, prob d k * (Real.log (prob d k) + L) = kl L d := by
  have h : ∀ k, prob d k * (Real.log (prob d k) + L)
      = (rmin d - Real.log (∑ j, wd d j) + L) * prob d k - prob d k * d k := fun k => by
    have : Real.log (prob d k) = rmin d - d k - Real.log (∑ j, wd d j) := by
      unfold prob
      rw [Real.log_div (wd_pos d k).ne' (sum_wd_pos d).ne', wd, Real.log_exp]
    rw [this]; ring
  rw [Finset.sum_congr rfl fun k _ => h k, Finset.sum_sub_distrib, ← Finset.mul_sum, sum_prob_one, sum_prob]
  unfold kl; ring

/-- The reference doubles the row before it takes the maximum. -/
theorem rmax_two (a : Fin n → ℝ) : rmax (fun k => a k * 2) = rmax a * 2 := by
  obtain ⟨k, hk⟩ := exists_rmax a
  exact rmax_eq (fun j => by have := le_rmax a j; linarith) k (by rw [hk])

/-- The largest negated distance is the smallest distance, negated. -/
theorem rmax_neg (d : Fin n → ℝ) : rmax (fun k => -d k) = -rmin d := by
  obtain ⟨k, hk⟩ := exists_rmin d
  exact rmax_eq (fun j => by have := rmin_le d j; linarith) k (by rw [hk])

/-! ## Rows as extended reals -/

theorem coe_sum {ι : Type*} (s : Finset ι) (f : ι → ℝ) : ∑ k ∈ s, (f k : EReal) = ((∑ k ∈ s, f k : ℝ) : EReal) := by
  classical
  induction s using Finset.induction_on with
  | empty => simp
  | insert i s hi ih => rw [Finset.sum_insert hi, Finset.sum_insert hi, ih, EReal.coe_add]

theorem fold_max (a : Fin n → ℝ) : (Finset.univ : Finset (Fin n)).fold max ⊥ (fun k => (a k : EReal)) = (rmax a : EReal) := by
  refine le_antisymm (Finset.fold_max_le _ |>.mpr ⟨bot_le, fun k _ => EReal.coe_le_coe_iff.mpr (le_rmax a k)⟩) ?_
  obtain ⟨k, hk⟩ := exists_rmax a
  exact Finset.le_fold_max _ |>.mpr (Or.inr ⟨k, Finset.mem_univ _, by rw [hk]⟩)

theorem fold_min (d : Fin n → ℝ) : (Finset.univ : Finset (Fin n)).fold min ⊤ (fun k => (d k : EReal)) = (rmin d : EReal) := by
  refine le_antisymm ?_ (Finset.le_fold_min _ |>.mpr ⟨le_top, fun k _ => EReal.coe_le_coe_iff.mpr (rmin_le d k)⟩)
  obtain ⟨k, hk⟩ := exists_rmin d
  exact Finset.fold_min_le _ |>.mpr (Or.inr ⟨k, Finset.mem_univ _, by rw [hk]⟩)

theorem div_coe_coe (x : ℝ) {y : ℝ} (h : y ≠ 0) : Ideal.div (x : EReal) (y : EReal) = ((x / y : ℝ) : EReal) := by
  rw [Ideal.div_coe h, ← EReal.coe_mul, mul_one_div]

theorem log_coe_pos {x : ℝ} (h : 0 < x) : Ideal.log (x : EReal) = (Real.log x : EReal) := by
  rw [Ideal.log_coe, if_neg (not_le.mpr h)]

/-! ## The first maximum by machine words -/

theorem pos_toInt (k : Fin 8192) : (BitVec.ofNat 32 k.val).toInt = (k.val : ℤ) := by
  have := k.isLt
  rw [BitVec.toInt_eq_toNat_of_lt] <;> rw [BitVec.toNat_ofNat] <;> omega

/-- The least of the positions holding the maximum, the others masked by a word above all positions. -/
theorem fold_minsi (a : Fin 8192 → ℝ) (w : Fin 8192 → BitVec 32)
    (hw : ∀ k, w k = if rmax a ≤ a k then BitVec.ofNat 32 k.val else 8192#32) :
    (Finset.univ : Finset (Fin 8192)).fold IntOp.minsi 2147483647#32 w = BitVec.ofNat 32 (first a).val := by
  have toInt_min : ∀ x y : BitVec 32, (IntOp.minsi x y).toInt = min x.toInt y.toInt := fun x y => by
    unfold IntOp.minsi
    simp only [BitVec.slt, decide_eq_true_eq]
    split_ifs <;> omega
  have h8 : (8192#32).toInt = 8192 := by decide
  have hf := Finset.fold_hom (op := IntOp.minsi (w := 32)) (op' := (min : ℤ → ℤ → ℤ)) (s := (Finset.univ : Finset (Fin 8192)))
    (b := 2147483647#32) (f := w) (m := BitVec.toInt) toInt_min
  apply BitVec.eq_of_toInt_eq
  rw [← hf, pos_toInt]
  refine le_antisymm (Finset.fold_min_le _ |>.mpr (Or.inr ⟨first a, Finset.mem_univ _, ?_⟩))
    (Finset.le_fold_min _ |>.mpr ⟨?_, fun k _ => ?_⟩)
  · rw [hw, if_pos (first_max a), pos_toInt]
  · have := (first a).isLt
    have h : (2147483647#32).toInt = 2147483647 := by decide
    rw [h]; omega
  · rw [hw]
    split_ifs with h
    · rw [pos_toInt]; exact_mod_cast first_le a h
    · have := (first a).isLt
      rw [h8]; omega

/-- A fold that keeps one of its two operands, never a smaller one, ends at one of the entries it has met, and that
    entry is at least each of them. -/
theorem foldl_sel {α : Type*} (le : α → α → Prop) (refl : ∀ p, le p p) (trans : ∀ p q r, le p q → le q r → le p r)
    (f : α → α → α) (hs : ∀ p q, f p q = p ∨ f p q = q) (hl : ∀ p q, le p (f p q)) (hr : ∀ p q, le q (f p q))
    (L : List α) (p : α) :
    (L.foldl f p = p ∨ L.foldl f p ∈ L) ∧ le p (L.foldl f p) ∧ ∀ q ∈ L, le q (L.foldl f p) := by
  induction L generalizing p with
  | nil => exact ⟨Or.inl rfl, refl p, by simp⟩
  | cons x L ih =>
    obtain ⟨h1, h2, h3⟩ := ih (f p x)
    rw [List.foldl_cons]
    refine ⟨?_, trans _ _ _ (hl p x) h2, fun q hq => ?_⟩
    · rcases h1 with h1 | h1
      · rcases hs p x with h | h
        · left; rw [h1, h]
        · right; rw [h1, h]; exact List.mem_cons_self
      · right; exact List.mem_cons_of_mem _ h1
    · rcases List.mem_cons.mp hq with rfl | hq
      · exact trans _ _ _ (hr p q) h2
      · exact h3 q hq

/-- The order the first-largest choice follows: a larger value, or an equal value at a position not later. -/
def below (p q : EReal × BitVec 32) : Prop := p.1 < q.1 ∨ (p.1 = q.1 ∧ q.2.toInt ≤ p.2.toInt)

/-- The reducer of the reference's argmax, written with conditions. -/
theorem reducer_eq (p q : EReal × BitVec 32) :
    Cert.ReferenceIdeal.reducer_argmax_f32_i32 (F := Ideal) p q
      = if q.1 < p.1 then p else if p.1 = q.1 ∧ p.2.toInt < q.2.toInt then p else q := by
  obtain ⟨x, i⟩ := p
  obtain ⟨y, j⟩ := q
  by_cases h1 : y < x
  · have h2 : ¬ x = y := fun e => absurd h1 (by rw [e]; exact lt_irrefl _)
    simp [Cert.ReferenceIdeal.reducer_argmax_f32_i32, Ideal.cmpf_def, Ideal.cmp, h1, IntOp.ori, IntOp.andi, Scalar.select, h2]
  · by_cases h2 : x = y
    · subst h2
      by_cases h3 : i.toInt < j.toInt
      · simp [Cert.ReferenceIdeal.reducer_argmax_f32_i32, Ideal.cmpf_def, Ideal.cmp, IntOp.ori, IntOp.andi, Scalar.select, IntOp.cmpi, BitVec.slt, h3]
      · simp [Cert.ReferenceIdeal.reducer_argmax_f32_i32, Ideal.cmpf_def, Ideal.cmp, IntOp.ori, IntOp.andi, Scalar.select, IntOp.cmpi, BitVec.slt, h3]
    · simp [Cert.ReferenceIdeal.reducer_argmax_f32_i32, Ideal.cmpf_def, Ideal.cmp, h1, IntOp.ori, IntOp.andi, Scalar.select, h2]

/-- The reference's fold over the pairs (value, position) of a row ends at the row's first maximum. -/
theorem foldl_argmax (s : Fin 8192 → ℝ) (L : List (EReal × BitVec 32))
    (h1 : ∀ p ∈ L, ∃ k : Fin 8192, p = ((s k : EReal), BitVec.ofNat 32 k.val))
    (h2 : ∀ k : Fin 8192, ((s k : EReal), BitVec.ofNat 32 k.val) ∈ L) :
    (L.foldl (Cert.ReferenceIdeal.reducer_argmax_f32_i32 (F := Ideal)) ((⊥ : EReal), 0#32)).2 = BitVec.ofNat 32 (first s).val := by
  obtain ⟨g1, _, g3⟩ := foldl_sel below (fun p => Or.inr ⟨rfl, le_rfl⟩)
    (fun p q r => by
      rintro (a | ⟨a, a'⟩) (b | ⟨b, b'⟩)
      · exact Or.inl (a.trans b)
      · exact Or.inl (b ▸ a)
      · exact Or.inl (a ▸ b)
      · exact Or.inr ⟨a.trans b, b'.trans a'⟩)
    (Cert.ReferenceIdeal.reducer_argmax_f32_i32 (F := Ideal))
    (fun p q => by rw [reducer_eq]; split_ifs <;> simp)
    (fun p q => by
      rw [reducer_eq]
      split_ifs with a b
      · exact Or.inr ⟨rfl, le_rfl⟩
      · exact Or.inr ⟨rfl, le_rfl⟩
      · rcases lt_or_eq_of_le (not_lt.mp a) with c | c
        · exact Or.inl c
        · exact Or.inr ⟨c, not_lt.mp fun e => b ⟨c, e⟩⟩)
    (fun p q => by
      rw [reducer_eq]
      split_ifs with a b
      · exact Or.inl a
      · exact Or.inr ⟨b.1.symm, b.2.le⟩
      · exact Or.inr ⟨rfl, le_rfl⟩)
    L ((⊥ : EReal), 0#32)
  generalize L.foldl (Cert.ReferenceIdeal.reducer_argmax_f32_i32 (F := Ideal)) ((⊥ : EReal), 0#32) = R at g1 g3
  have hR : R ∈ L := by
    rcases g1 with g1 | g1
    · exfalso
      rcases g3 _ (h2 0) with e | e
      · rw [g1] at e; exact not_lt_bot e
      · rw [g1] at e; exact EReal.coe_ne_bot _ e.1
    · exact g1
  obtain ⟨k, rfl⟩ := h1 R hR
  show BitVec.ofNat 32 k.val = _
  rw [first_eq (a := s) (k := k) fun j => ?_]
  rcases g3 _ (h2 j) with e | ⟨e, e'⟩
  · exact Or.inl (EReal.coe_lt_coe_iff.mp e)
  · refine Or.inr ⟨EReal.coe_eq_coe_iff.mp e, ?_⟩
    simp only [pos_toInt] at e'
    exact_mod_cast e'

end Cert.Vq

end
-- ==== Proof.RefValue.lean ====
/- The reference's results over finite arguments: each stage of RefRead.lean read at an index as a real. -/
module

public import proofs.«01_k».proof.Proof.RefRead
public import proofs.«01_k».proof.Proof.Spec

@[expose] public section

noncomputable section

namespace Cert.Vq

open Idealize.ShloMosaic Cert.ReferenceIdeal Cert.ReferenceIdeal.Gen Cert.ReferenceIdeal.Read

/-- Token `n`'s feature `d`: the tokens are the (batch, row, column) triples in row-major order. -/
def tok (z : S4x256x32x32.Idx → ℝ) (n : Fin 4096) (d : Fin 256) : ℝ :=
  z (ix4 (⟨n.val / 1024, by omega⟩ : Fin 4) d (⟨n.val / 32 % 32, by omega⟩ : Fin 32) (⟨n.val % 32, by omega⟩ : Fin 32))

/-- The squared distance of token `n` to codeword `k`, expanded as the reference writes it. -/
def dist (z : S4x256x32x32.Idx → ℝ) (c : S8192x256.Idx → ℝ) (n : Fin 4096) (k : Fin 8192) : ℝ :=
  ((∑ d : Fin 256, c (ix2 k d) * c (ix2 k d)) + ∑ d : Fin 256, tok z n d * tok z n d) - 2 * ∑ d : Fin 256, tok z n d * c (ix2 k d)

/-- The noisy logits of token `n`. -/
def noisy (z : S4x256x32x32.Idx → ℝ) (c : S8192x256.Idx → ℝ) (g : S4096x8192.Idx → ℝ) (n : Fin 4096) (k : Fin 8192) : ℝ :=
  g (ix2 n k) - dist z c n k

/-- Real arguments as extended reals. -/
abbrev up {S : Shape} (f : S.Idx → ℝ) : S.Idx → EReal := fun i => (f i : EReal)

variable (z : S4x256x32x32.Idx → ℝ) (c : S8192x256.Idx → ℝ) (g : S4096x8192.Idx → ℝ)

/-! ## The constants -/

theorem bits_two : Ideal.ofBits .f32 0x40000000#32 = ((2 : ℝ) : EReal) := by
  simp [Ideal.ofBits, Ideal.ieee]
  rw [← EReal.coe_mul]
  norm_num
theorem bits_half : Ideal.ofBits .f32 0x3F000000#32 = ((1 / 2 : ℝ) : EReal) := by
  simp [Ideal.ofBits, Ideal.ieee]
  rw [← EReal.coe_mul]
  norm_num
theorem bits_k : Ideal.ofBits .f32 0x46000000#32 = ((8192 : ℝ) : EReal) := by
  simp [Ideal.ofBits, Ideal.ieee]
  rw [← EReal.coe_mul]
  norm_num
theorem bits_four : Ideal.ofBits .f32 0x40800000#32 = ((4 : ℝ) : EReal) := by
  simp [Ideal.ofBits, Ideal.ieee]
  rw [← EReal.coe_mul]
  norm_num
theorem bits_bot : Ideal.ofBits .f32 0xFF800000#32 = (⊥ : EReal) := by
  simp [Ideal.ofBits, Ideal.ieee]

/-- A row maximum on the host, read at a row. -/
theorem host_max (y : FVec Ideal S4096x8192 .f32) (v : FVec Ideal S_ .f32) (n : Fin 4096) :
    Host.reduce (FloatOps.maximumf (F := Ideal) (φ := .f32)) y v reducesTo_S4096x8192_S4096_d1 h_S_ (ix1 n)
      = (Finset.univ : Finset (Fin 8192)).fold max (v (Shape.Idx.first h_S_)) (fun k => y (ix2 n k)) := by
  refine (Host.reduce_eq_fold_single (FloatOps.maximumf (F := Ideal) (φ := .f32)) y v reducesTo_S4096x8192_S4096_d1 (by decide) h_S_ (ix1 n)).trans ?_
  refine congrArg (fun f => (Finset.univ : Finset (Fin 8192)).fold max (v (Shape.Idx.first h_S_)) f) ?_
  funext k
  exact congrArg y (funext fun a => Fin.ext (by match a with | ⟨0, _⟩ => rfl | ⟨1, _⟩ => rfl))

/-- The larger of `-∞` and a row maximum that starts at `-∞` is the row's largest entry. -/
theorem host_row_max (b : FVec Ideal S4096 .f32) (y : FVec Ideal S4096x8192 .f32) (v : FVec Ideal S_ .f32) (n : Fin 4096)
    (a : Fin 8192 → ℝ) (hb : b (ix1 n) = (⊥ : EReal)) (hv : v (Shape.Idx.first h_S_) = (⊥ : EReal))
    (h : ∀ k, y (ix2 n k) = (a k : EReal)) :
    maximumf b (Host.reduce (FloatOps.maximumf (F := Ideal) (φ := .f32)) y v reducesTo_S4096x8192_S4096_d1 h_S_) (ix1 n)
      = (rmax a : EReal) := by
  show max (b (ix1 n)) (Host.reduce (FloatOps.maximumf (F := Ideal) (φ := .f32)) y v reducesTo_S4096x8192_S4096_d1 h_S_ (ix1 n)) = _
  rw [host_max, hb, hv]
  simp only [h]
  rw [fold_max, max_eq_right bot_le]

/-- The pairs an arg-reduction folds at `j`: those of the elements that reduce to `j`. -/
theorem mem_fiber {α β : Type} {s t : Shape} {axes : List (Fin s.rank)} (x : s.Idx → α) (y : s.Idx → β)
    (h : s.ReducesTo axes t) (j : t.Idx) (p : α × β) :
    p ∈ Host.argReduceFiber x y h j ↔ ∃ i : s.Idx, h.drop i = j ∧ p = (x i, y i) := by
  unfold Host.argReduceFiber
  rw [List.mem_map]
  constructor
  · rintro ⟨q, hq, rfl⟩
    exact ⟨_, of_decide_eq_true (List.mem_filter.mp hq).2, rfl⟩
  · rintro ⟨i, hi, rfl⟩
    refine ⟨s.rowMajor i, List.mem_filter.mpr ⟨List.mem_finRange _, decide_eq_true ?_⟩, ?_⟩
    · rw [Equiv.symm_apply_apply]; exact hi
    · rw [Equiv.symm_apply_apply]

/-- The second result of an arg-reduction. -/
def argSnd {β : Type} {s t u : Shape} {axes : List (Fin s.rank)} (f : EReal × β → EReal × β → EReal × β)
    (x : FVec Ideal s .f32) (y : s.Idx → β) (ix : FVec Ideal u .f32) (iy : u.Idx → β) (h : s.ReducesTo axes t) (hu : 0 < u.numel) :
    t.Idx → β :=
  fun j => (Host.argReduce (F := Ideal) (φ := .f32) f x y ix iy h hu j).2

theorem argSnd_fold {β : Type} {s t u : Shape} {axes : List (Fin s.rank)} (f : EReal × β → EReal × β → EReal × β)
    (x : FVec Ideal s .f32) (y : s.Idx → β) (ix : FVec Ideal u .f32) (iy : u.Idx → β) (h : s.ReducesTo axes t) (hu : 0 < u.numel)
    (j : t.Idx) :
    argSnd f x y ix iy h hu j = ((Host.argReduceFiber x y h j).foldl f (ix (Shape.Idx.first hu), iy (Shape.Idx.first hu))).2 := by
  unfold argSnd
  rw [Ideal.argReduce_eq_reduce2, Host.reduce2_eq_foldl_fiber]

/-- An arg-max of a row of reals paired with positions is the row's first largest position. -/
theorem host_argmax (y : FVec Ideal S4096x8192 .f32) (w : S4096x8192.Idx → BitVec 32) (ib : FVec Ideal S_ .f32) (ic : S_.Idx → BitVec 32)
    (n : Fin 4096) (a : Fin 8192 → ℝ) (hb : ib (Shape.Idx.first h_S_) = (⊥ : EReal)) (hc : ic (Shape.Idx.first h_S_) = 0#32)
    (hy : ∀ k, y (ix2 n k) = (a k : EReal)) (hw : ∀ k, w (ix2 n k) = BitVec.ofNat 32 k.val) :
    argSnd (reducer_argmax_f32_i32 (F := Ideal)) y w ib ic reducesTo_S4096x8192_S4096_d1 h_S_ (ix1 n)
      = BitVec.ofNat 32 (first a).val := by
  rw [argSnd_fold, hb, hc]
  have key : ∀ i : S4096x8192.Idx, (reducesTo_S4096x8192_S4096_d1.drop i = ix1 n) ↔ i 0 = n := fun i => by
    constructor
    · intro e
      exact congrFun e 0
    · intro e
      funext b
      match b with | ⟨0, _⟩ => exact e
  refine foldl_argmax a _ (fun p hp => ?_) fun k => ?_
  · obtain ⟨i, hi, rfl⟩ := (mem_fiber _ _ _ _ _).mp hp
    have e := (key i).mp hi
    obtain ⟨k, hx⟩ : ∃ k : Fin 8192, i = ix2 n k := ⟨i 1, by rw [← e]; exact eq_ix2 i⟩
    exact ⟨k, by rw [hx, hy, hw]⟩
  · exact (mem_fiber _ _ _ _ _).mpr ⟨ix2 n k, (key _).mpr rfl, by rw [hy, hw]⟩

/-! ## The stages -/

theorem ref_tok (n : Fin 4096) (d : Fin 256) : val_main_v1 (F := Ideal) (up z) (ix2 n d) = (tok z n d : EReal) := by
  pointwise [val_main_v1, val_main_v0]
  rfl

theorem ref_dist (n : Fin 4096) (k : Fin 8192) : val_main_v15 (F := Ideal) (up z) (up c) (ix2 n k) = (dist z c n k : EReal) := by
  pointwise [val_main_v15, val_main_v14, val_main_v13, val_main_v12, val_main_v11, val_main_v10, val_main_v9, val_main_v8, val_main_v7, val_main_v6, val_main_v5, val_main_v4, val_main_v3, val_main_v2, val_main_cst, val_main_cst_0, val_main_cst_1]
  simp only [ref_tok, bits_two, ← EReal.coe_mul, coe_sum, ← EReal.coe_add, ← EReal.coe_sub]
  rfl

/-- The noisy logits over the temperature one half. -/
theorem ref_v19 (n : Fin 4096) (k : Fin 8192) :
    val_main_v19 (F := Ideal) (up z) (up c) (up g) (ix2 n k) = ((noisy z c g n k * 2 : ℝ) : EReal) := by
  pointwise [val_main_v19, val_main_v18, val_main_v17, val_main_v16, val_main_cst_2]
  simp only [ref_dist, bits_half, ← EReal.coe_neg, ← EReal.coe_add]
  rw [div_coe_coe _ (by norm_num)]
  congr 1
  unfold noisy
  ring

theorem ref_v22 (n : Fin 4096) :
    val_main_v22 (F := Ideal) (up z) (up c) (up g) (ix1 n) = ((rmax (noisy z c g n) * 2 : ℝ) : EReal) := by
  have e : val_main_v22 (F := Ideal) (up z) (up c) (up g) = maximumf (F := Ideal) (φ := .f32) (val_main_v21 (F := Ideal))
      (Host.reduce (FloatOps.maximumf (F := Ideal) (φ := .f32)) (val_main_v19 (F := Ideal) (up z) (up c) (up g)) (val_main_cst_3 (F := Ideal)) reducesTo_S4096x8192_S4096_d1 h_S_) := by
    unfold val_main_v22 val_main_v20; rfl
  have h1 : val_main_v21 (F := Ideal) (ix1 n) = (⊥ : EReal) := by
    pointwise [val_main_v21, val_main_cst_4]
    exact bits_bot
  have h2 : val_main_cst_3 (F := Ideal) (Shape.Idx.first h_S_) = (⊥ : EReal) := (val_main_cst_3_apply _).trans bits_bot
  rw [e, host_row_max _ _ _ n _ h1 h2 (ref_v19 z c g n), rmax_two]

theorem ref_v26 (n : Fin 4096) (k : Fin 8192) :
    val_main_v26 (F := Ideal) (up z) (up c) (up g) (ix2 n k) = (wt (noisy z c g n) k : EReal) := by
  pointwise [val_main_v26, val_main_v25, val_main_v24, val_main_v23]
  rw [ref_v19, ref_v22, ← EReal.coe_sub, Ideal.exp_coe, ← sub_mul]
  rfl

theorem ref_v30 (n : Fin 4096) (k : Fin 8192) :
    val_main_v30 (F := Ideal) (up z) (up c) (up g) (ix2 n k) = (soft (noisy z c g n) k : EReal) := by
  pointwise [val_main_v30, val_main_v29, val_main_v28, val_main_v27, val_main_cst_5]
  simp only [ref_v26, coe_sum]
  rw [div_coe_coe _ (sum_wt_pos _).ne']
  rfl

theorem v31_eq (x0 : (⟨S4x256x32x32, .f32⟩ : BufTy).Contents (Elt Ideal))
    (x1 : (⟨S8192x256, .f32⟩ : BufTy).Contents (Elt Ideal)) (x2 : (⟨S4096x8192, .f32⟩ : BufTy).Contents (Elt Ideal)) :
    val_main_v31 (F := Ideal) x0 x1 x2
      = argSnd (reducer_argmax_f32_i32 (F := Ideal)) (val_main_v30 (F := Ideal) x0 x1 x2) (val_main_call0_v0 (F := Ideal))
          (val_main_call0_cst (F := Ideal)) (val_main_call0_c (F := Ideal)) reducesTo_S4096x8192_S4096_d1 h_S_ := rfl

/-- The reference's index: the first position holding the largest noisy logit. -/
theorem ref_v31 (n : Fin 4096) :
    val_main_v31 (F := Ideal) (up z) (up c) (up g) (ix1 n) = BitVec.ofNat 32 (first (noisy z c g n)).val := by
  have hb : val_main_call0_cst (F := Ideal) (Shape.Idx.first h_S_) = (⊥ : EReal) := (val_main_call0_cst_apply _).trans bits_bot
  have hc : val_main_call0_c (F := Ideal) (Shape.Idx.first h_S_) = 0#32 := val_main_call0_c_apply _
  have hw : ∀ k : Fin 8192, val_main_call0_v0 (F := Ideal) (ix2 n k) = BitVec.ofNat 32 k.val := fun k => val_main_call0_v0_apply _
  have h := host_argmax (val_main_v30 (F := Ideal) (up z) (up c) (up g)) (val_main_call0_v0 (F := Ideal))
    (val_main_call0_cst (F := Ideal)) (val_main_call0_c (F := Ideal)) n (soft (noisy z c g n)) hb hc (ref_v30 z c g n) hw
  rw [first_soft] at h
  rw [v31_eq]
  exact h

/-- The reference's quantized vector. -/
theorem ref_v33 (n : Fin 4096) (d : Fin 256) :
    val_main_v33 (F := Ideal) (up z) (up c) (up g) (ix2 n d)
      = (((∑ k, wt (noisy z c g n) k * c (ix2 k d)) / ∑ k, wt (noisy z c g n) k : ℝ) : EReal) := by
  pointwise [val_main_v33]
  simp only [ref_v30, ← EReal.coe_mul, coe_sum]
  rw [sum_soft (noisy z c g n) fun k => c (ix2 k d)]

theorem ref_v37 (n : Fin 4096) : val_main_v37 (F := Ideal) (up z) (up c) (ix1 n) = ((-rmin (dist z c n) : ℝ) : EReal) := by
  have e : val_main_v37 (F := Ideal) (up z) (up c) = maximumf (F := Ideal) (φ := .f32) (val_main_v36 (F := Ideal))
      (Host.reduce (FloatOps.maximumf (F := Ideal) (φ := .f32)) (val_main_v16 (F := Ideal) (up z) (up c)) (val_main_cst_6 (F := Ideal)) reducesTo_S4096x8192_S4096_d1 h_S_) := by
    unfold val_main_v37 val_main_v35; rfl
  have h1 : val_main_v36 (F := Ideal) (ix1 n) = (⊥ : EReal) := by
    pointwise [val_main_v36, val_main_cst_7]
    exact bits_bot
  have h2 : val_main_cst_6 (F := Ideal) (Shape.Idx.first h_S_) = (⊥ : EReal) := (val_main_cst_6_apply _).trans bits_bot
  have h : ∀ k, val_main_v16 (F := Ideal) (up z) (up c) (ix2 n k) = ((-dist z c n k : ℝ) : EReal) := fun k => by
    pointwise [val_main_v16]
    rw [ref_dist, EReal.coe_neg]
  rw [e, host_row_max _ _ _ n _ h1 h2 h, rmax_neg]

theorem ref_v41 (n : Fin 4096) (k : Fin 8192) :
    val_main_v41 (F := Ideal) (up z) (up c) (ix2 n k) = (wd (dist z c n) k : EReal) := by
  pointwise [val_main_v41, val_main_v40, val_main_v39, val_main_v38, val_main_v16]
  rw [ref_dist, ref_v37, ← EReal.coe_neg, ← EReal.coe_sub, Ideal.exp_coe]
  unfold wd
  rw [show -dist z c n k - -rmin (dist z c n) = rmin (dist z c n) - dist z c n k by ring]

theorem ref_v45 (n : Fin 4096) (k : Fin 8192) :
    val_main_v45 (F := Ideal) (up z) (up c) (ix2 n k) = (prob (dist z c n) k : EReal) := by
  pointwise [val_main_v45, val_main_v44, val_main_v43, val_main_v42, val_main_cst_8]
  simp only [ref_v41, coe_sum]
  rw [div_coe_coe _ (sum_wd_pos _).ne']
  rfl

theorem ref_v50 (n : Fin 4096) (k : Fin 8192) :
    val_main_v50 (F := Ideal) (up z) (up c) (ix2 n k)
      = ((prob (dist z c n) k * (Real.log (prob (dist z c n) k) + Real.log 8192) : ℝ) : EReal) := by
  pointwise [val_main_v50, val_main_v49, val_main_v48, val_main_v47, val_main_v46, val_main_cst_9]
  rw [ref_v45, bits_k, log_coe_pos (prob_pos _ _), log_coe_pos (by norm_num), ← EReal.coe_add, ← EReal.coe_mul]

/-- The sum over rows, columns and codewords and then over the batch, from zero, is the sum over all tokens and codewords. -/
theorem host_total (x : S4x32x32x8192.Idx → EReal) (y : S4096x8192.Idx → EReal) (v w : FVec Ideal S_ .f32)
    (hx : x = shapeCast S4x32x32x8192 y shapeCasts_S4096x8192_S4x32x32x8192)
    (hv : v (Shape.Idx.first h_S_) = (0 : EReal)) (hw : w (Shape.Idx.first h_S_) = (0 : EReal)) (j : S_.Idx) :
    Host.reduceAdd (F := Ideal) (φ := .f32) (Host.reduceAdd (F := Ideal) (φ := .f32) x v reducesTo_S4x32x32x8192_S4_d1_2_3 h_S_) w reducesTo_S4_S_d0 h_S_ j
      = ∑ n : Fin 4096, ∑ k : Fin 8192, y (ix2 n k) := by
  refine (Ideal.hostReduceAdd_total reducesTo_S4_S_d0 (fun b => b.elim0) _ _ j).trans ?_
  rw [hw, zero_add]
  have h : ∀ b : S4.Idx, Host.reduceAdd (F := Ideal) (φ := .f32) x v reducesTo_S4x32x32x8192_S4_d1_2_3 h_S_ b
      = ∑ i ∈ Finset.univ.filter (fun i => reducesTo_S4x32x32x8192_S4_d1_2_3.drop i = b), x i := fun b => by
    show v (Shape.Idx.first h_S_) + _ = _
    rw [hv, zero_add]
  simp only [h]
  rw [Finset.sum_fiberwise, hx]
  exact (Equiv.sum_comp (Shape.reshapeEquiv _) y).trans (sum_idx2 y)

/-- The reference's KL result. -/
theorem ref_v54 (j : S_.Idx) :
    val_main_v54 (F := Ideal) (up z) (up c) j = (((∑ n, kl (Real.log 8192) (dist z c n)) / 4 : ℝ) : EReal) := by
  rw [val_main_v54_apply]
  have h : val_main_v53 (F := Ideal) (up z) (up c) j = ((∑ n, kl (Real.log 8192) (dist z c n) : ℝ) : EReal) := by
    have e : val_main_v53 (F := Ideal) (up z) (up c) j = ∑ n : Fin 4096, ∑ k : Fin 8192, val_main_v50 (F := Ideal) (up z) (up c) (ix2 n k) :=
      host_total (val_main_v51 (F := Ideal) (up z) (up c)) _ (val_main_cst_10 (F := Ideal)) (val_main_cst_11 (F := Ideal)) rfl Ideal.ofBits_zero_f32 Ideal.ofBits_zero_f32 j
    rw [e]
    simp only [ref_v50, coe_sum, sum_kl]
  rw [h]
  show Ideal.div _ (Ideal.ofBits .f32 0x40800000#32) = _
  rw [bits_four, div_coe_coe _ (by norm_num)]

/-- The reference's commitment result. -/
theorem ref_v60 (j : S_.Idx) :
    val_main_v60 (F := Ideal) (up z) (up c) j = (((∑ n, com (dist z c n)) / 4 : ℝ) : EReal) := by
  rw [val_main_v60_apply]
  have h : val_main_v59 (F := Ideal) (up z) (up c) j = ((∑ n, com (dist z c n) : ℝ) : EReal) := by
    have e : val_main_v59 (F := Ideal) (up z) (up c) j
        = ∑ n : Fin 4096, ∑ k : Fin 8192, val_main_v45 (F := Ideal) (up z) (up c) (ix2 n k) * val_main_v15 (F := Ideal) (up z) (up c) (ix2 n k) :=
      host_total (val_main_v57 (F := Ideal) (up z) (up c))
        (fun i => val_main_v45 (F := Ideal) (up z) (up c) i * val_main_v15 (F := Ideal) (up z) (up c) i)
        (val_main_cst_13 (F := Ideal)) (val_main_cst_14 (F := Ideal)) rfl Ideal.ofBits_zero_f32 Ideal.ofBits_zero_f32 j
    rw [e]
    simp only [ref_v45, ref_dist, ← EReal.coe_mul, coe_sum, sum_prob]
  rw [h]
  show Ideal.div _ (Ideal.ofBits .f32 0x40800000#32) = _
  rw [bits_four, div_coe_coe _ (by norm_num)]

end Cert.Vq

end
-- ==== Proof.KerPre.lean ====
/- What the kernel's host operations before the launch compute, as functions of the arguments. -/
module

public import proofs.«01_k».proof.Proof.Gen.KernelIdeal.Frame.Runs
public import Idealize.ShloMosaic.Lib.StableHlo.Run
public import Idealize.ShloMosaic.Lib.StableHlo.RunRead

@[expose] public section

noncomputable section

namespace Cert.Vq.Ker

open Idealize.ShloMosaic Idealize.ShloMosaic.TcCoe Idealize.SL.Sem Idealize.ShloMosaic.StableHlo
open Cert.KernelIdeal Cert.KernelIdeal.Gen

variable {F : FTy → Type} [FloatOps F]

/-- A scatter whose body returns the update. -/
def put {s si u : Shape} (d : ScatterDims s si u) (x : Vec F s .bf16) (i : Vec F si .i32) (w : Vec F u .bf16) : Vec F s .bf16 :=
  Host.scatter d (fun _ b => b) x i w

def h_v0 (x0 : Vec F S4x256x32x32 .f32) : Vec F S4x32x32x256 .f32 :=
  transpose S4x32x32x256 [0, 2, 3, 1] x0 transposes_S4x256x32x32_S4x32x32x256_0_2_3_1

def h_v1 (x0 : Vec F S4x256x32x32 .f32) : Vec F S4096x256 .f32 :=
  shapeCast S4096x256 (h_v0 (F := F) x0) shapeCasts_S4x32x32x256_S4096x256

def h_cst  : Vec F S_ .f32 :=
  constant S_ .f32 0xC0000000#32

def h_v2  : Vec F S4096x256 .f32 :=
  broadcastInDim S4096x256 ![] bcast_S_S4096x256 (h_cst (F := F))

def h_v3 (x0 : Vec F S4x256x32x32 .f32) : Vec F S4096x256 .f32 :=
  mulf (h_v2 (F := F)) (h_v1 (F := F) x0)

def h_v4 (x0 : Vec F S4x256x32x32 .f32) : Vec F S4096x256 .bf16 :=
  truncf .bf16 (h_v3 (F := F) x0) bitsLt_bf16_f32

def h_cst_0  : Vec F S_ .bf16 :=
  constant S_ .bf16 0x0000#16

def h_v5  : Vec F S8192x384 .bf16 :=
  broadcastInDim S8192x384 ![] bcast_S_S8192x384 (h_cst_0 (F := F))

def h_v6 (x1 : Vec F S8192x256 .f32) : Vec F S8192x256 .bf16 :=
  truncf .bf16 x1 bitsLt_bf16_f32

def h_c  : Vec F S_ .i32 :=
  constantI S_ 32 0#32

def h_v7  : Vec F S1 .i32 :=
  broadcastInDim S1 ![] bcast_S_S1 (h_c (F := F))

def h_v8 (x1 : Vec F S8192x256 .f32) : Vec F S8192x384 .bf16 :=
  put scatter_S8192x384_S1_S8192x256_01_n_1_0 (h_v5 (F := F)) (h_v7 (F := F)) (h_v6 (F := F) x1)

def h_c_1  : Vec F S_ .i32 :=
  constantI S_ 32 256#32

def h_v9  : Vec F S1 .i32 :=
  broadcastInDim S1 ![] bcast_S_S1 (h_c_1 (F := F))

def h_cst_2  : Vec F S_ .bf16 :=
  constant S_ .bf16 0x3F80#16

def h_v10  : Vec F S8192 .bf16 :=
  broadcastInDim S8192 ![] bcast_S_S8192 (h_cst_2 (F := F))

def h_v11 (x1 : Vec F S8192x256 .f32) : Vec F S8192x384 .bf16 :=
  put scatter_S8192x384_S1_S8192_0_1_1_0 (h_v8 (F := F) x1) (h_v9 (F := F)) (h_v10 (F := F))

def h_v12 (x1 : Vec F S8192x256 .f32) : Vec F S8192x256 .f32 :=
  mulf x1 x1

def h_cst_3  : Vec F S_ .f32 :=
  constant S_ .f32 0x00000000#32

def h_v13 (x1 : Vec F S8192x256 .f32) : Vec F S8192 .f32 :=
  Host.reduceAdd (h_v12 (F := F) x1) (h_cst_3 (F := F)) reducesTo_S8192x256_S8192_d1 h_S_

def h_v14 (x1 : Vec F S8192x256 .f32) : Vec F S1x8192 .f32 :=
  broadcastInDim S1x8192 ![1] bcast_S8192_S1x8192_1 (h_v13 (F := F) x1)

def h_v15 (x0 : Vec F S4x256x32x32 .f32) : Vec F S4096x256 .f32 :=
  mulf (h_v1 (F := F) x0) (h_v1 (F := F) x0)

def h_cst_4  : Vec F S_ .f32 :=
  constant S_ .f32 0x00000000#32

def h_v16 (x0 : Vec F S4x256x32x32 .f32) : Vec F S4096 .f32 :=
  Host.reduceAdd (h_v15 (F := F) x0) (h_cst_4 (F := F)) reducesTo_S4096x256_S4096_d1 h_S_

def h_v17 (x0 : Vec F S4x256x32x32 .f32) : Vec F S4096x1 .f32 :=
  broadcastInDim S4096x1 ![0] bcast_S4096_S4096x1_0 (h_v16 (F := F) x0)

/-- The buffers the operations write, in order. -/
abbrev outs : List (Ref sig .tc) :=
  [main_call0_v0, main_call0_v1, main_call0_cst, main_call0_v2, main_call0_v3, main_call0_v4, main_call0_cst_0, main_call0_v5, main_call0_v6, main_call0_c, main_call0_v7, main_call0_v8, main_call0_c_1, main_call0_v9, main_call0_cst_2, main_call0_v10, main_call0_v11, main_call0_v12, main_call0_cst_3, main_call0_v13, main_call0_v14, main_call0_v15, main_call0_cst_4, main_call0_v16, main_call0_v17]

theorem ops_writes : (hostOps0 : List (HloOp τ sig (Elt F))).map HloOp.writes = outs.map fun w => {Proc.devRef (τ := τ) .tc w} := rfl

theorem part_writes (i : ℕ) : ((hostOps0 : List (HloOp τ sig (Elt F))).drop i).map HloOp.writes = (outs.drop i).map fun w => {Proc.devRef (τ := τ) .tc w} := by
  rw [List.map_drop, List.map_drop, ops_writes]

theorem after_split (l₁ l₂ : List (HloOp τ sig (Elt F))) (V : Valuation τ sig (Elt F)) :
    after (l₁ ++ l₂) V = after l₂ (after l₁ V) := by
  induction l₁ generalizing V with
  | nil => rfl
  | cons op l ih => exact ih _

/-- A buffer that no operation from position `i` on writes holds at the end what it held before position `i`. -/
theorem keep (V : Valuation τ sig (Elt F)) (i : ℕ) (r : Ref sig .tc) (h : r ∉ outs.drop i) :
    upto hostOps0 V i (Proc.devRef .tc r) = after hostOps0 V (Proc.devRef .tc r) := by
  have e := after_split (hostOps0.take i) (hostOps0.drop i) V
  rw [List.take_append_drop] at e
  rw [e, after_of_writes_sub _ _ (forall_writes_sub_of_map (part_writes i)) h]
  rfl

/-- The buffer an operation writes holds at the end what that operation left in it. -/
theorem last (V : Valuation τ sig (Elt F)) (i : ℕ) (op : HloOp τ sig (Elt F)) (r : Ref sig .tc)
    (hop : (hostOps0 : List (HloOp τ sig (Elt F)))[i]? = some op) (h : r ∉ outs.drop (i + 1)) :
    after hostOps0 V (Proc.devRef .tc r) = op.result (upto hostOps0 V i) (Proc.devRef .tc r) := by
  obtain ⟨hi, rfl⟩ := List.getElem?_eq_some_iff.mp hop
  exact after_last_write (outs.drop (i + 1)) (List.drop_eq_getElem_cons hi) (part_writes (i + 1)) h V

/-- The arguments keep their contents. -/
theorem at_arg (V : Valuation τ sig (Elt F)) (r : Ref sig .tc) (h : r ∉ outs) :
    after hostOps0 V (Proc.devRef .tc r) = V (Proc.devRef .tc r) :=
  after_of_writes_sub _ _ (forall_writes_sub_of_map ops_writes) h

theorem strip_v8 (g : Vec F S8192x384 .bf16 → Vec F S1 .i32 → Vec F S8192x256 .bf16 → Vec F S8192x384 .bf16) (y0 : Vec F S8192x384 .bf16) (y1 : Vec F S1 .i32) (y2 : Vec F S8192x256 .bf16) :
    (TRef.of main_call0_v8 : TRef sig ⟨S8192x384, .bf16⟩).toBuf (g ((TRef.of main_call0_v5 : TRef sig ⟨S8192x384, .bf16⟩).ofBuf y0)
      ((TRef.of main_call0_v7 : TRef sig ⟨S1, .i32⟩).ofBuf y1) ((TRef.of main_call0_v6 : TRef sig ⟨S8192x256, .bf16⟩).ofBuf y2)) = g y0 y1 y2 := rfl

theorem strip_v11 (g : Vec F S8192x384 .bf16 → Vec F S1 .i32 → Vec F S8192 .bf16 → Vec F S8192x384 .bf16) (y0 : Vec F S8192x384 .bf16) (y1 : Vec F S1 .i32) (y2 : Vec F S8192 .bf16) :
    (TRef.of main_call0_v11 : TRef sig ⟨S8192x384, .bf16⟩).toBuf (g ((TRef.of main_call0_v8 : TRef sig ⟨S8192x384, .bf16⟩).ofBuf y0)
      ((TRef.of main_call0_v9 : TRef sig ⟨S1, .i32⟩).ofBuf y1) ((TRef.of main_call0_v10 : TRef sig ⟨S8192, .bf16⟩).ofBuf y2)) = g y0 y1 y2 := rfl

theorem at_v0 (V : Valuation τ sig (Elt F)) : after hostOps0 V (Proc.devRef .tc main_call0_v0) = h_v0 (F := F) (V (Proc.devRef .tc main_arg0)) := by
  rw [last V 0 _ main_call0_v0 rfl (by decide), unary_result', keep V 0 main_arg0 (by decide), at_arg V main_arg0 (by decide)]; unfold h_v0; rfl

theorem at_v1 (V : Valuation τ sig (Elt F)) : after hostOps0 V (Proc.devRef .tc main_call0_v1) = h_v1 (F := F) (V (Proc.devRef .tc main_arg0)) := by
  rw [last V 1 _ main_call0_v1 rfl (by decide), reshape_result', keep V 1 main_call0_v0 (by decide), at_v0 V]; unfold h_v1; generalize h_v0 (F := F) (V (Proc.devRef .tc main_arg0)) = y0; rfl

theorem at_cst (V : Valuation τ sig (Elt F)) : after hostOps0 V (Proc.devRef .tc main_call0_cst) = h_cst (F := F) := by
  rw [last V 2 _ main_call0_cst rfl (by decide), nullary_result']; unfold h_cst; rfl

theorem at_v2 (V : Valuation τ sig (Elt F)) : after hostOps0 V (Proc.devRef .tc main_call0_v2) = h_v2 (F := F) := by
  rw [last V 3 _ main_call0_v2 rfl (by decide), unary_result', keep V 3 main_call0_cst (by decide), at_cst V]; unfold h_v2; generalize h_cst (F := F) = y0; rfl

theorem at_v3 (V : Valuation τ sig (Elt F)) : after hostOps0 V (Proc.devRef .tc main_call0_v3) = h_v3 (F := F) (V (Proc.devRef .tc main_arg0)) := by
  rw [last V 4 _ main_call0_v3 rfl (by decide), binary_result', keep V 4 main_call0_v2 (by decide), keep V 4 main_call0_v1 (by decide), at_v2 V, at_v1 V]; unfold h_v3; generalize h_v2 (F := F) = y0; generalize h_v1 (F := F) (V (Proc.devRef .tc main_arg0)) = y1; rfl

theorem at_v4 (V : Valuation τ sig (Elt F)) : after hostOps0 V (Proc.devRef .tc main_call0_v4) = h_v4 (F := F) (V (Proc.devRef .tc main_arg0)) := by
  rw [last V 5 _ main_call0_v4 rfl (by decide), unary_result', keep V 5 main_call0_v3 (by decide), at_v3 V]; unfold h_v4; generalize h_v3 (F := F) (V (Proc.devRef .tc main_arg0)) = y0; rfl

theorem at_cst_0 (V : Valuation τ sig (Elt F)) : after hostOps0 V (Proc.devRef .tc main_call0_cst_0) = h_cst_0 (F := F) := by
  rw [last V 6 _ main_call0_cst_0 rfl (by decide), nullary_result']; unfold h_cst_0; rfl

theorem at_v5 (V : Valuation τ sig (Elt F)) : after hostOps0 V (Proc.devRef .tc main_call0_v5) = h_v5 (F := F) := by
  rw [last V 7 _ main_call0_v5 rfl (by decide), unary_result', keep V 7 main_call0_cst_0 (by decide), at_cst_0 V]; unfold h_v5; generalize h_cst_0 (F := F) = y0; rfl

theorem at_v6 (V : Valuation τ sig (Elt F)) : after hostOps0 V (Proc.devRef .tc main_call0_v6) = h_v6 (F := F) (V (Proc.devRef .tc main_arg1)) := by
  rw [last V 8 _ main_call0_v6 rfl (by decide), unary_result', keep V 8 main_arg1 (by decide), at_arg V main_arg1 (by decide)]; unfold h_v6; rfl

theorem at_c (V : Valuation τ sig (Elt F)) : after hostOps0 V (Proc.devRef .tc main_call0_c) = h_c (F := F) := by
  rw [last V 9 _ main_call0_c rfl (by decide), nullary_result']; unfold h_c; rfl

theorem at_v7 (V : Valuation τ sig (Elt F)) : after hostOps0 V (Proc.devRef .tc main_call0_v7) = h_v7 (F := F) := by
  rw [last V 10 _ main_call0_v7 rfl (by decide), unary_result', keep V 10 main_call0_c (by decide), at_c V]; unfold h_v7; generalize h_c (F := F) = y0; rfl

theorem at_v8 (V : Valuation τ sig (Elt F)) : after hostOps0 V (Proc.devRef .tc main_call0_v8) = h_v8 (F := F) (V (Proc.devRef .tc main_arg1)) := by
  rw [last V 11 _ main_call0_v8 rfl (by decide), ternary_result', keep V 11 main_call0_v5 (by decide), keep V 11 main_call0_v7 (by decide), keep V 11 main_call0_v6 (by decide), at_v5 V, at_v7 V, at_v6 V]; unfold h_v8; generalize h_v5 (F := F) = y0; generalize h_v7 (F := F) = y1; generalize h_v6 (F := F) (V (Proc.devRef .tc main_arg1)) = y2; exact strip_v8 (fun x i u => Host.scatter scatter_S8192x384_S1_S8192x256_01_n_1_0 (fun _ b => b) x i u) y0 y1 y2

theorem at_c_1 (V : Valuation τ sig (Elt F)) : after hostOps0 V (Proc.devRef .tc main_call0_c_1) = h_c_1 (F := F) := by
  rw [last V 12 _ main_call0_c_1 rfl (by decide), nullary_result']; unfold h_c_1; rfl

theorem at_v9 (V : Valuation τ sig (Elt F)) : after hostOps0 V (Proc.devRef .tc main_call0_v9) = h_v9 (F := F) := by
  rw [last V 13 _ main_call0_v9 rfl (by decide), unary_result', keep V 13 main_call0_c_1 (by decide), at_c_1 V]; unfold h_v9; generalize h_c_1 (F := F) = y0; rfl

theorem at_cst_2 (V : Valuation τ sig (Elt F)) : after hostOps0 V (Proc.devRef .tc main_call0_cst_2) = h_cst_2 (F := F) := by
  rw [last V 14 _ main_call0_cst_2 rfl (by decide), nullary_result']; unfold h_cst_2; rfl

theorem at_v10 (V : Valuation τ sig (Elt F)) : after hostOps0 V (Proc.devRef .tc main_call0_v10) = h_v10 (F := F) := by
  rw [last V 15 _ main_call0_v10 rfl (by decide), unary_result', keep V 15 main_call0_cst_2 (by decide), at_cst_2 V]; unfold h_v10; generalize h_cst_2 (F := F) = y0; rfl

theorem at_v11 (V : Valuation τ sig (Elt F)) : after hostOps0 V (Proc.devRef .tc main_call0_v11) = h_v11 (F := F) (V (Proc.devRef .tc main_arg1)) := by
  rw [last V 16 _ main_call0_v11 rfl (by decide), ternary_result', keep V 16 main_call0_v8 (by decide), keep V 16 main_call0_v9 (by decide), keep V 16 main_call0_v10 (by decide), at_v8 V, at_v9 V, at_v10 V]; unfold h_v11; generalize h_v8 (F := F) (V (Proc.devRef .tc main_arg1)) = y0; generalize h_v9 (F := F) = y1; generalize h_v10 (F := F) = y2; exact strip_v11 (fun x i u => Host.scatter scatter_S8192x384_S1_S8192_0_1_1_0 (fun _ b => b) x i u) y0 y1 y2

theorem at_v12 (V : Valuation τ sig (Elt F)) : after hostOps0 V (Proc.devRef .tc main_call0_v12) = h_v12 (F := F) (V (Proc.devRef .tc main_arg1)) := by
  rw [last V 17 _ main_call0_v12 rfl (by decide), binary_result', keep V 17 main_arg1 (by decide), at_arg V main_arg1 (by decide)]; unfold h_v12; rfl

theorem at_cst_3 (V : Valuation τ sig (Elt F)) : after hostOps0 V (Proc.devRef .tc main_call0_cst_3) = h_cst_3 (F := F) := by
  rw [last V 18 _ main_call0_cst_3 rfl (by decide), nullary_result']; unfold h_cst_3; rfl

theorem at_v13 (V : Valuation τ sig (Elt F)) : after hostOps0 V (Proc.devRef .tc main_call0_v13) = h_v13 (F := F) (V (Proc.devRef .tc main_arg1)) := by
  rw [last V 19 _ main_call0_v13 rfl (by decide), binary_result', keep V 19 main_call0_v12 (by decide), keep V 19 main_call0_cst_3 (by decide), at_v12 V, at_cst_3 V]; unfold h_v13; generalize h_v12 (F := F) (V (Proc.devRef .tc main_arg1)) = y0; generalize h_cst_3 (F := F) = y1; rfl

theorem at_v14 (V : Valuation τ sig (Elt F)) : after hostOps0 V (Proc.devRef .tc main_call0_v14) = h_v14 (F := F) (V (Proc.devRef .tc main_arg1)) := by
  rw [last V 20 _ main_call0_v14 rfl (by decide), unary_result', keep V 20 main_call0_v13 (by decide), at_v13 V]; unfold h_v14; generalize h_v13 (F := F) (V (Proc.devRef .tc main_arg1)) = y0; rfl

theorem at_v15 (V : Valuation τ sig (Elt F)) : after hostOps0 V (Proc.devRef .tc main_call0_v15) = h_v15 (F := F) (V (Proc.devRef .tc main_arg0)) := by
  rw [last V 21 _ main_call0_v15 rfl (by decide), binary_result', keep V 21 main_call0_v1 (by decide), at_v1 V]; unfold h_v15; generalize h_v1 (F := F) (V (Proc.devRef .tc main_arg0)) = y0; rfl

theorem at_cst_4 (V : Valuation τ sig (Elt F)) : after hostOps0 V (Proc.devRef .tc main_call0_cst_4) = h_cst_4 (F := F) := by
  rw [last V 22 _ main_call0_cst_4 rfl (by decide), nullary_result']; unfold h_cst_4; rfl

theorem at_v16 (V : Valuation τ sig (Elt F)) : after hostOps0 V (Proc.devRef .tc main_call0_v16) = h_v16 (F := F) (V (Proc.devRef .tc main_arg0)) := by
  rw [last V 23 _ main_call0_v16 rfl (by decide), binary_result', keep V 23 main_call0_v15 (by decide), keep V 23 main_call0_cst_4 (by decide), at_v15 V, at_cst_4 V]; unfold h_v16; generalize h_v15 (F := F) (V (Proc.devRef .tc main_arg0)) = y0; generalize h_cst_4 (F := F) = y1; rfl

theorem at_v17 (V : Valuation τ sig (Elt F)) : after hostOps0 V (Proc.devRef .tc main_call0_v17) = h_v17 (F := F) (V (Proc.devRef .tc main_arg0)) := by
  rw [last V 24 _ main_call0_v17 rfl (by decide), unary_result', keep V 24 main_call0_v16 (by decide), at_v16 V]; unfold h_v17; generalize h_v16 (F := F) (V (Proc.devRef .tc main_arg0)) = y0; rfl

end Cert.Vq.Ker
-- ==== Proof.KerRun.lean ====
/- What the kernel body leaves in each output's block, per case, in terms of the input blocks. -/
module

public import proofs.«01_k».proof.Proof.Gen.KernelIdeal.Frame
public import Idealize.ShloMosaic.Lib.Pipeline.Value
public import Idealize.ShloMosaic.Lib.Tactic

@[expose] public section

set_option maxRecDepth 16384

noncomputable section

namespace Cert.Vq.Ker

open Idealize.ShloMosaic Idealize.ShloMosaic.TcCoe Idealize.SL.Sem
open Idealize.ShloMosaic.Pipeline (Dat)
open Cert.KernelIdeal Cert.KernelIdeal.Gen

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a; rfl

/-- The codebook part of the extended codebook: its first 256 columns. -/
def book (x : Vec F S8192x384 .bf16) : Vec F S8192x256 .bf16 :=
  View.ld x (Rect.unit ![0, 0] ![8192, 256] inb_S8192x384_S8192x256_0_0)

/-- The first point leaves, in its block of the quantized vectors, this function of the input blocks. -/
theorem out_A_5 (c : Dev nD) (i : grid0.Coords) (arg1 : Memref sig .tc .vmem S128x1 .f32) (harg1 : arg1.IsWhole) (arg2 : Memref sig .tc .vmem S128x256 .bf16) (harg2 : arg2.IsWhole) (arg3 : Memref sig .tc .vmem S8192x384 .bf16) (harg3 : arg3.IsWhole) (arg4 : Memref sig .tc .vmem S1x8192 .f32) (harg4 : arg4.IsWhole) (arg5 : Memref sig .tc .vmem S128x8192 .f32) (harg5 : arg5.IsWhole) (arg6 : Memref sig .tc .vmem S128x256 .f32) (harg6 : arg6.IsWhole) (arg7 : Memref sig .tc .vmem S128 .i32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i)
    (x0 : Vec F S128x1 .f32) (x1 : Vec F S128x256 .bf16) (x2 : Vec F S8192x384 .bf16) (x3 : Vec F S1x8192 .f32) (x4 : Vec F S128x8192 .f32) :
    out0_A_5 c i arg1 harg1 arg2 harg2 arg3 harg3 arg4 harg4 arg5 harg5 arg6 harg6 arg7 harg7 arg8 harg8 arg9 harg9 hc0 hc1 x0 x1 x2 x3 x4 = k0_pay14 x0 x1 (book x2) x3 x4 x2 := by
  unfold out0_A_5
  rw [View.read_writes_eq_canon _ _ _ (cover0_A_5 c i arg1 harg1 arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_unit_zero hz2]
  simp only [View.readAt_eq_ld, harg1.read_unread, harg2.read_unread, harg3.read_unread, harg4.read_unread, harg5.read_unread, harg8.read_unread, harg9.read_unread, View.ld_unit_zero (S := S128x1) hz2, View.ld_unit_zero (S := S128x256) hz2, View.ld_unit_zero (S := S8192x384) hz2, View.ld_unit_zero (S := S1x8192) hz2, View.ld_unit_zero (S := S128x8192) hz2, View.ld_unit_zero (S := S1x1) hz2]
  rfl

/-- The first point leaves, in its block of the indices, this function of the input blocks. -/
theorem out_A_6 (c : Dev nD) (i : grid0.Coords) (arg1 : Memref sig .tc .vmem S128x1 .f32) (harg1 : arg1.IsWhole) (arg2 : Memref sig .tc .vmem S128x256 .bf16) (harg2 : arg2.IsWhole) (arg3 : Memref sig .tc .vmem S8192x384 .bf16) (harg3 : arg3.IsWhole) (arg4 : Memref sig .tc .vmem S1x8192 .f32) (harg4 : arg4.IsWhole) (arg5 : Memref sig .tc .vmem S128x8192 .f32) (harg5 : arg5.IsWhole) (arg6 : Memref sig .tc .vmem S128x256 .f32) (harg6 : arg6.IsWhole) (arg7 : Memref sig .tc .vmem S128 .i32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i)
    (x0 : Vec F S128x1 .f32) (x1 : Vec F S128x256 .bf16) (x2 : Vec F S8192x384 .bf16) (x3 : Vec F S1x8192 .f32) (x4 : Vec F S128x8192 .f32) :
    out0_A_6 c i arg1 harg1 arg2 harg2 arg3 harg3 arg4 harg4 arg5 harg5 arg6 harg6 arg7 harg7 arg8 harg8 arg9 harg9 hc0 hc1 x0 x1 x2 x3 x4 = k0_pay13 x0 x1 (book x2) x3 x4 := by
  unfold out0_A_6
  rw [View.read_writes_eq_canon _ _ _ (cover0_A_6 c i arg1 harg1 arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_unit_zero hz1]
  simp only [View.readAt_eq_ld, harg1.read_unread, harg2.read_unread, harg3.read_unread, harg4.read_unread, harg5.read_unread, harg8.read_unread, harg9.read_unread, View.ld_unit_zero (S := S128x1) hz2, View.ld_unit_zero (S := S128x256) hz2, View.ld_unit_zero (S := S8192x384) hz2, View.ld_unit_zero (S := S1x8192) hz2, View.ld_unit_zero (S := S128x8192) hz2, View.ld_unit_zero (S := S1x1) hz2]
  rfl

/-- The first point leaves, in its block of the KL sum, this function of the input blocks. -/
theorem out_A_7 (c : Dev nD) (i : grid0.Coords) (arg1 : Memref sig .tc .vmem S128x1 .f32) (harg1 : arg1.IsWhole) (arg2 : Memref sig .tc .vmem S128x256 .bf16) (harg2 : arg2.IsWhole) (arg3 : Memref sig .tc .vmem S8192x384 .bf16) (harg3 : arg3.IsWhole) (arg4 : Memref sig .tc .vmem S1x8192 .f32) (harg4 : arg4.IsWhole) (arg5 : Memref sig .tc .vmem S128x8192 .f32) (harg5 : arg5.IsWhole) (arg6 : Memref sig .tc .vmem S128x256 .f32) (harg6 : arg6.IsWhole) (arg7 : Memref sig .tc .vmem S128 .i32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i)
    (x0 : Vec F S128x1 .f32) (x1 : Vec F S128x256 .bf16) (x2 : Vec F S8192x384 .bf16) (x3 : Vec F S1x8192 .f32) (x4 : Vec F S128x8192 .f32) :
    out0_A_7 c i arg1 harg1 arg2 harg2 arg3 harg3 arg4 harg4 arg5 harg5 arg6 harg6 arg7 harg7 arg8 harg8 arg9 harg9 hc0 hc1 x0 x1 x2 x3 x4 = k0_pay5 k0_pay9 (k0_pay10 x0 x1 (book x2) x3) := by
  unfold out0_A_7
  rw [View.read_writes_eq_canon _ _ _ (cover0_A_7 c i arg1 harg1 arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_unit_zero hz2]
  simp only [View.readAt_eq_ld, harg1.read_unread, harg2.read_unread, harg3.read_unread, harg4.read_unread, harg5.read_unread, harg8.read_unread, harg9.read_unread, View.ld_unit_zero (S := S128x1) hz2, View.ld_unit_zero (S := S128x256) hz2, View.ld_unit_zero (S := S8192x384) hz2, View.ld_unit_zero (S := S1x8192) hz2, View.ld_unit_zero (S := S128x8192) hz2, View.ld_unit_zero (S := S1x1) hz2]
  rfl

/-- The first point leaves, in its block of the commitment sum, this function of the input blocks. -/
theorem out_A_8 (c : Dev nD) (i : grid0.Coords) (arg1 : Memref sig .tc .vmem S128x1 .f32) (harg1 : arg1.IsWhole) (arg2 : Memref sig .tc .vmem S128x256 .bf16) (harg2 : arg2.IsWhole) (arg3 : Memref sig .tc .vmem S8192x384 .bf16) (harg3 : arg3.IsWhole) (arg4 : Memref sig .tc .vmem S1x8192 .f32) (harg4 : arg4.IsWhole) (arg5 : Memref sig .tc .vmem S128x8192 .f32) (harg5 : arg5.IsWhole) (arg6 : Memref sig .tc .vmem S128x256 .f32) (harg6 : arg6.IsWhole) (arg7 : Memref sig .tc .vmem S128 .i32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i)
    (x0 : Vec F S128x1 .f32) (x1 : Vec F S128x256 .bf16) (x2 : Vec F S8192x384 .bf16) (x3 : Vec F S1x8192 .f32) (x4 : Vec F S128x8192 .f32) :
    out0_A_8 c i arg1 harg1 arg2 harg2 arg3 harg3 arg4 harg4 arg5 harg5 arg6 harg6 arg7 harg7 arg8 harg8 arg9 harg9 hc0 hc1 x0 x1 x2 x3 x4 = k0_pay6 (k0_pay10 x0 x1 (book x2) x3) := by
  unfold out0_A_8
  rw [View.read_writes_eq_canon _ _ _ (cover0_A_8 c i arg1 harg1 arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_unit_zero hz2]
  simp only [View.readAt_eq_ld, harg1.read_unread, harg2.read_unread, harg3.read_unread, harg4.read_unread, harg5.read_unread, harg8.read_unread, harg9.read_unread, View.ld_unit_zero (S := S128x1) hz2, View.ld_unit_zero (S := S128x256) hz2, View.ld_unit_zero (S := S8192x384) hz2, View.ld_unit_zero (S := S1x8192) hz2, View.ld_unit_zero (S := S128x8192) hz2, View.ld_unit_zero (S := S1x1) hz2]
  rfl

/-- A later point leaves, in its block of the quantized vectors, this function of the input blocks. -/
theorem out_B_5 (c : Dev nD) (i : grid0.Coords) (arg1 : Memref sig .tc .vmem S128x1 .f32) (harg1 : arg1.IsWhole) (arg2 : Memref sig .tc .vmem S128x256 .bf16) (harg2 : arg2.IsWhole) (arg3 : Memref sig .tc .vmem S8192x384 .bf16) (harg3 : arg3.IsWhole) (arg4 : Memref sig .tc .vmem S1x8192 .f32) (harg4 : arg4.IsWhole) (arg5 : Memref sig .tc .vmem S128x8192 .f32) (harg5 : arg5.IsWhole) (arg6 : Memref sig .tc .vmem S128x256 .f32) (harg6 : arg6.IsWhole) (arg7 : Memref sig .tc .vmem S128 .i32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i)
    (x0 : Vec F S128x1 .f32) (x1 : Vec F S128x256 .bf16) (x2 : Vec F S8192x384 .bf16) (x3 : Vec F S1x8192 .f32) (x4 : Vec F S128x8192 .f32) (xo7 xo8 : Vec F S1x1 .f32) :
    out0_B_5 c i arg1 harg1 arg2 harg2 arg3 harg3 arg4 harg4 arg5 harg5 arg6 harg6 arg7 harg7 arg8 harg8 arg9 harg9 hc0 hc1 x0 x1 x2 x3 x4 xo7 xo8 = k0_pay14 x0 x1 (book x2) x3 x4 x2 := by
  unfold out0_B_5
  rw [View.read_writes_eq_canon _ _ _ (cover0_B_5 c i arg1 harg1 arg2 harg2 arg3 harg3 arg4 harg4 arg5 harg5 arg6 harg6 arg7 harg7 arg8 harg8 arg9 harg9 hc0 hc1 x0 x1 x2 x3 x4 xo7 xo8)]
  unfold kernelRun0_B
  dsimp only
  sl_unfold_words
  rw [View.canon_unit_zero hz2]
  simp only [View.readAt_eq_ld, harg1.read_unread, harg2.read_unread, harg3.read_unread, harg4.read_unread, harg5.read_unread, harg8.read_unread, harg9.read_unread, View.ld_unit_zero (S := S128x1) hz2, View.ld_unit_zero (S := S128x256) hz2, View.ld_unit_zero (S := S8192x384) hz2, View.ld_unit_zero (S := S1x8192) hz2, View.ld_unit_zero (S := S128x8192) hz2, View.ld_unit_zero (S := S1x1) hz2]
  rfl

/-- A later point leaves, in its block of the indices, this function of the input blocks. -/
theorem out_B_6 (c : Dev nD) (i : grid0.Coords) (arg1 : Memref sig .tc .vmem S128x1 .f32) (harg1 : arg1.IsWhole) (arg2 : Memref sig .tc .vmem S128x256 .bf16) (harg2 : arg2.IsWhole) (arg3 : Memref sig .tc .vmem S8192x384 .bf16) (harg3 : arg3.IsWhole) (arg4 : Memref sig .tc .vmem S1x8192 .f32) (harg4 : arg4.IsWhole) (arg5 : Memref sig .tc .vmem S128x8192 .f32) (harg5 : arg5.IsWhole) (arg6 : Memref sig .tc .vmem S128x256 .f32) (harg6 : arg6.IsWhole) (arg7 : Memref sig .tc .vmem S128 .i32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i)
    (x0 : Vec F S128x1 .f32) (x1 : Vec F S128x256 .bf16) (x2 : Vec F S8192x384 .bf16) (x3 : Vec F S1x8192 .f32) (x4 : Vec F S128x8192 .f32) (xo7 xo8 : Vec F S1x1 .f32) :
    out0_B_6 c i arg1 harg1 arg2 harg2 arg3 harg3 arg4 harg4 arg5 harg5 arg6 harg6 arg7 harg7 arg8 harg8 arg9 harg9 hc0 hc1 x0 x1 x2 x3 x4 xo7 xo8 = k0_pay13 x0 x1 (book x2) x3 x4 := by
  unfold out0_B_6
  rw [View.read_writes_eq_canon _ _ _ (cover0_B_6 c i arg1 harg1 arg2 harg2 arg3 harg3 arg4 harg4 arg5 harg5 arg6 harg6 arg7 harg7 arg8 harg8 arg9 harg9 hc0 hc1 x0 x1 x2 x3 x4 xo7 xo8)]
  unfold kernelRun0_B
  dsimp only
  sl_unfold_words
  rw [View.canon_unit_zero hz1]
  simp only [View.readAt_eq_ld, harg1.read_unread, harg2.read_unread, harg3.read_unread, harg4.read_unread, harg5.read_unread, harg8.read_unread, harg9.read_unread, View.ld_unit_zero (S := S128x1) hz2, View.ld_unit_zero (S := S128x256) hz2, View.ld_unit_zero (S := S8192x384) hz2, View.ld_unit_zero (S := S1x8192) hz2, View.ld_unit_zero (S := S128x8192) hz2, View.ld_unit_zero (S := S1x1) hz2]
  rfl

/-- A later point leaves, in its block of the KL sum, this function of the input blocks and of what the point before left. -/
theorem out_B_7 (c : Dev nD) (i : grid0.Coords) (arg1 : Memref sig .tc .vmem S128x1 .f32) (harg1 : arg1.IsWhole) (arg2 : Memref sig .tc .vmem S128x256 .bf16) (harg2 : arg2.IsWhole) (arg3 : Memref sig .tc .vmem S8192x384 .bf16) (harg3 : arg3.IsWhole) (arg4 : Memref sig .tc .vmem S1x8192 .f32) (harg4 : arg4.IsWhole) (arg5 : Memref sig .tc .vmem S128x8192 .f32) (harg5 : arg5.IsWhole) (arg6 : Memref sig .tc .vmem S128x256 .f32) (harg6 : arg6.IsWhole) (arg7 : Memref sig .tc .vmem S128 .i32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i)
    (x0 : Vec F S128x1 .f32) (x1 : Vec F S128x256 .bf16) (x2 : Vec F S8192x384 .bf16) (x3 : Vec F S1x8192 .f32) (x4 : Vec F S128x8192 .f32) (xo7 xo8 : Vec F S1x1 .f32) :
    out0_B_7 c i arg1 harg1 arg2 harg2 arg3 harg3 arg4 harg4 arg5 harg5 arg6 harg6 arg7 harg7 arg8 harg8 arg9 harg9 hc0 hc1 x0 x1 x2 x3 x4 xo7 xo8 = k0_pay7 k0_pay9 (k0_pay10 x0 x1 (book x2) x3) xo7 := by
  unfold out0_B_7
  rw [View.read_writes_eq_canon _ _ _ (cover0_B_7 c i arg1 harg1 arg2 harg2 arg3 harg3 arg4 harg4 arg5 harg5 arg6 harg6 arg7 harg7 arg8 harg8 arg9 harg9 hc0 hc1 x0 x1 x2 x3 x4 xo7 xo8)]
  unfold kernelRun0_B
  dsimp only
  sl_unfold_words
  rw [View.canon_unit_zero hz2]
  simp only [View.readAt_eq_ld, harg1.read_unread, harg2.read_unread, harg3.read_unread, harg4.read_unread, harg5.read_unread, harg8.read_unread, harg9.read_unread, View.ld_unit_zero (S := S128x1) hz2, View.ld_unit_zero (S := S128x256) hz2, View.ld_unit_zero (S := S8192x384) hz2, View.ld_unit_zero (S := S1x8192) hz2, View.ld_unit_zero (S := S128x8192) hz2, View.ld_unit_zero (S := S1x1) hz2]
  rfl

/-- A later point leaves, in its block of the commitment sum, this function of the input blocks and of what the point before left. -/
theorem out_B_8 (c : Dev nD) (i : grid0.Coords) (arg1 : Memref sig .tc .vmem S128x1 .f32) (harg1 : arg1.IsWhole) (arg2 : Memref sig .tc .vmem S128x256 .bf16) (harg2 : arg2.IsWhole) (arg3 : Memref sig .tc .vmem S8192x384 .bf16) (harg3 : arg3.IsWhole) (arg4 : Memref sig .tc .vmem S1x8192 .f32) (harg4 : arg4.IsWhole) (arg5 : Memref sig .tc .vmem S128x8192 .f32) (harg5 : arg5.IsWhole) (arg6 : Memref sig .tc .vmem S128x256 .f32) (harg6 : arg6.IsWhole) (arg7 : Memref sig .tc .vmem S128 .i32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i)
    (x0 : Vec F S128x1 .f32) (x1 : Vec F S128x256 .bf16) (x2 : Vec F S8192x384 .bf16) (x3 : Vec F S1x8192 .f32) (x4 : Vec F S128x8192 .f32) (xo7 xo8 : Vec F S1x1 .f32) :
    out0_B_8 c i arg1 harg1 arg2 harg2 arg3 harg3 arg4 harg4 arg5 harg5 arg6 harg6 arg7 harg7 arg8 harg8 arg9 harg9 hc0 hc1 x0 x1 x2 x3 x4 xo7 xo8 = k0_pay8 (k0_pay10 x0 x1 (book x2) x3) xo8 := by
  unfold out0_B_8
  rw [View.read_writes_eq_canon _ _ _ (cover0_B_8 c i arg1 harg1 arg2 harg2 arg3 harg3 arg4 harg4 arg5 harg5 arg6 harg6 arg7 harg7 arg8 harg8 arg9 harg9 hc0 hc1 x0 x1 x2 x3 x4 xo7 xo8)]
  unfold kernelRun0_B
  dsimp only
  sl_unfold_words
  rw [View.canon_unit_zero hz2]
  simp only [View.readAt_eq_ld, harg1.read_unread, harg2.read_unread, harg3.read_unread, harg4.read_unread, harg5.read_unread, harg8.read_unread, harg9.read_unread, View.ld_unit_zero (S := S128x1) hz2, View.ld_unit_zero (S := S128x256) hz2, View.ld_unit_zero (S := S8192x384) hz2, View.ld_unit_zero (S := S1x8192) hz2, View.ld_unit_zero (S := S128x8192) hz2, View.ld_unit_zero (S := S1x1) hz2]
  rfl

variable (m : (ℓ : Loc nD τ sig) → Buf (Elt F) ℓ)

/-- A point's distances. -/
abbrev dst (c : Dev nD) (t : Fin cfg0.N) : FVec F S128x8192 .f32 := k0_pay10 (iblk m c 0 t) (iblk m c 1 t) (book (iblk m c 2 t)) (iblk m c 3 t)

theorem first_or (t : Fin cfg0.N) : (t.val % 32 = 0 ∧ ¬1 ≤ t.val) ∨ (¬t.val % 32 = 0 ∧ 1 ≤ t.val) := by
  have hN : cfg0.N = 32 := N_0
  have := t.isLt
  omega

/-- After every point its block of quantized vectors holds the body's function of the point's input blocks. -/
theorem outs_5 (c : Dev nD) (t : Fin cfg0.N) :
    (outsAt0 m c t.val t.isLt).1 = k0_pay14 (iblk m c 0 t) (iblk m c 1 t) (book (iblk m c 2 t)) (iblk m c 3 t) (iblk m c 4 t) (iblk m c 2 t) := by
  rcases first_or t with ⟨h0, h1⟩ | ⟨h0, h1⟩
  · rw [outsAt0_A m c t h0 h1]
    dsimp only
    rw [out_A_5]
  · rw [outsAt0_B m c t h0 h1]
    dsimp only
    rw [out_B_5]

/-- After every point its block of indices holds the body's function of the point's input blocks. -/
theorem outs_6 (c : Dev nD) (t : Fin cfg0.N) :
    (outsAt0 m c t.val t.isLt).2.1 = k0_pay13 (iblk m c 0 t) (iblk m c 1 t) (book (iblk m c 2 t)) (iblk m c 3 t) (iblk m c 4 t) := by
  rcases first_or t with ⟨h0, h1⟩ | ⟨h0, h1⟩
  · rw [outsAt0_A m c t h0 h1]
    dsimp only
    rw [out_A_6]
  · rw [outsAt0_B m c t h0 h1]
    dsimp only
    rw [out_B_6]

/-- The first point starts the KL sum with its own. -/
theorem outs_7_zero (c : Dev nD) (h : 0 < cfg0.N) : (outsAt0 m c 0 h).2.2.1 = k0_pay5 k0_pay9 (dst m c ⟨0, h⟩) := by
  rw [outsAt0_A m c ⟨0, h⟩ rfl (Nat.not_succ_le_zero 0)]
  dsimp only
  rw [out_A_7]

/-- Every later point adds its KL terms to the running sum. -/
theorem outs_7_succ (c : Dev nD) (n : ℕ) (h : n + 1 < cfg0.N) :
    (outsAt0 m c (n + 1) h).2.2.1 = k0_pay7 k0_pay9 (dst m c ⟨n + 1, h⟩) (outsAt0 m c n (Nat.lt_of_succ_lt h)).2.2.1 := by
  have hN : cfg0.N = 32 := N_0
  rw [outsAt0_B m c ⟨n + 1, h⟩ (by dsimp only; omega) (by dsimp only; omega)]
  dsimp only
  rw [out_B_7]
  rfl

/-- The first point starts the commitment sum with its own. -/
theorem outs_8_zero (c : Dev nD) (h : 0 < cfg0.N) : (outsAt0 m c 0 h).2.2.2 = k0_pay6 (dst m c ⟨0, h⟩) := by
  rw [outsAt0_A m c ⟨0, h⟩ rfl (Nat.not_succ_le_zero 0)]
  dsimp only
  rw [out_A_8]

/-- Every later point adds its commitment terms to the running sum. -/
theorem outs_8_succ (c : Dev nD) (n : ℕ) (h : n + 1 < cfg0.N) :
    (outsAt0 m c (n + 1) h).2.2.2 = k0_pay8 (dst m c ⟨n + 1, h⟩) (outsAt0 m c n (Nat.lt_of_succ_lt h)).2.2.2 := by
  have hN : cfg0.N = 32 := N_0
  rw [outsAt0_B m c ⟨n + 1, h⟩ (by dsimp only; omega) (by dsimp only; omega)]
  dsimp only
  rw [out_B_8]
  rfl

end Cert.Vq.Ker
-- ==== Proof.KerPay.lean ====
/- The kernel body's values on one block of tokens, each read at an index as a real: the distances, the row minima and
   weights, the sums over the block's tokens, the indices and the quantized vectors. -/
module

public import proofs.«01_k».proof.Proof.Gen.KernelIdeal.Skeleton
public import proofs.«01_k».proof.Proof.RefValue

@[expose] public section

noncomputable section

namespace Cert.Vq.Pay

open Idealize.ShloMosaic Cert.KernelIdeal Cert.KernelIdeal.Gen

theorem bits_top : Ideal.ofBits .f32 0x7F800000#32 = (⊤ : EReal) := by
  simp [Ideal.ofBits, Ideal.ieee]

/-! ## Each value read at an index -/

theorem read1 (v : FVec Ideal S128x8192 .f32) (r : Fin 128) (j : Fin 1) :
    k0_pay1 v (ix2 r j) = (Finset.univ : Finset (Fin 8192)).fold min (Ideal.ofBits .f32 0x7F800000#32) (fun k => v (ix2 r k)) := by
  pointwise [k0_pay1]

theorem aux2 (b : FVec Ideal S128x1 .f32) (v : FVec Ideal S128x8192 .f32) (r : Fin 128) (k : Fin 8192) :
    exp (subf (broadcastTo S128x8192 b broadcasts_S128x1_S128x8192) v) (ix2 r k) = Ideal.exp (b (ix2 r 0) - v (ix2 r k)) := by
  pointwise []

theorem read2 (v : FVec Ideal S128x8192 .f32) (r : Fin 128) (k : Fin 8192) :
    k0_pay2 v (ix2 r k) = Ideal.exp (k0_pay1 v (ix2 r 0) - v (ix2 r k)) := by
  have e : k0_pay2 v = exp (subf (broadcastTo S128x8192 (k0_pay1 v) broadcasts_S128x1_S128x8192) v) := rfl
  rw [e]
  exact aux2 _ _ _ _

theorem read3 (v : FVec Ideal S128x8192 .f32) (r : Fin 128) (j : Fin 1) :
    k0_pay3 v (ix2 r j) = ∑ k : Fin 8192, k0_pay2 v (ix2 r k) := by
  pointwise [k0_pay3]

theorem aux4 (a v : FVec Ideal S128x8192 .f32) (b : FVec Ideal S128x1 .f32) (r : Fin 128) (j : Fin 1) :
    divf (shapeCast S128x1 (multiReduction .add [1] S128 (mulf a v) 0x00000000#32 reduces_S128x8192_S128 (.inl rfl) rfl) shapeCasts_S128_S128x1) b (ix2 r j)
      = Ideal.div (∑ k : Fin 8192, a (ix2 r k) * v (ix2 r k)) (b (ix2 r j)) := by
  pointwise []

theorem read4 (v : FVec Ideal S128x8192 .f32) (r : Fin 128) (j : Fin 1) :
    k0_pay4 v (ix2 r j) = Ideal.div (∑ k : Fin 8192, k0_pay2 v (ix2 r k) * v (ix2 r k)) (k0_pay3 v (ix2 r j)) := by
  have e : k0_pay4 v = divf (shapeCast S128x1 (multiReduction .add [1] S128 (mulf (k0_pay2 v) v) 0x00000000#32 reduces_S128x8192_S128 (.inl rfl) rfl) shapeCasts_S128_S128x1) (k0_pay3 v) := rfl
  rw [e]
  exact aux4 _ _ _ _ _

theorem read5 (L : Ideal .f32) (v : FVec Ideal S128x8192 .f32) (i j : Fin 1) :
    k0_pay5 L v (ix2 i j) = ∑ r : Fin 128, ∑ _y : Fin 1, (((L - Ideal.log (k0_pay3 v (ix2 r 0))) + k0_pay1 v (ix2 r 0)) - k0_pay4 v (ix2 r 0)) := by
  unfold k0_pay5
  generalize k0_pay1 v = a
  generalize k0_pay3 v = b
  generalize k0_pay4 v = e
  pointwise []

theorem aux6 (b : FVec Ideal S128x1 .f32) (i j : Fin 1) :
    broadcast S1x1 (extractAt ![0, 0, 0] (shapeCast S1x1x1 (multiReduction .add [1, 2] S1 (shapeCast S1x128x1 b shapeCasts_S128x1_S1x128x1) 0x00000000#32 reduces_S1x128x1_S1 (.inl rfl) rfl) shapeCasts_S1_S1x1x1) inpos_S1x1x1_p0_0_0) (ix2 i j)
      = ∑ r : Fin 128, ∑ _y : Fin 1, b (ix2 r 0) := by
  pointwise []

theorem read6 (v : FVec Ideal S128x8192 .f32) (i j : Fin 1) :
    k0_pay6 v (ix2 i j) = ∑ r : Fin 128, ∑ _y : Fin 1, k0_pay4 v (ix2 r 0) := by
  have e : k0_pay6 v = broadcast S1x1 (extractAt ![0, 0, 0] (shapeCast S1x1x1 (multiReduction .add [1, 2] S1 (shapeCast S1x128x1 (k0_pay4 v) shapeCasts_S128x1_S1x128x1) 0x00000000#32 reduces_S1x128x1_S1 (.inl rfl) rfl) shapeCasts_S1_S1x1x1) inpos_S1x1x1_p0_0_0) := rfl
  rw [e]
  exact aux6 _ _ _

theorem read10 (v1 : Vec Ideal S128x1 .f32) (v3 : Vec Ideal S128x256 .bf16) (v5 : Vec Ideal S8192x256 .bf16) (v8 : Vec Ideal S1x8192 .f32)
    (r : Fin 128) (k : Fin 8192) :
    k0_pay10 v1 v3 v5 v8 (ix2 r k) = (v8 (ix2 0 k) + v1 (ix2 r 0)) + ∑ d : Fin 256, v3 (ix2 r d) * v5 (ix2 k d) := by
  pointwise [k0_pay10]

theorem read11 (v1 : Vec Ideal S128x1 .f32) (v3 : Vec Ideal S128x256 .bf16) (v5 : Vec Ideal S8192x256 .bf16) (v8 : Vec Ideal S1x8192 .f32)
    (v14 : Vec Ideal S128x8192 .f32) (r : Fin 128) (k : Fin 8192) :
    k0_pay11 v1 v3 v5 v8 v14 (ix2 r k) = v14 (ix2 r k) - k0_pay10 v1 v3 v5 v8 (ix2 r k) := by
  pointwise [k0_pay11]

theorem read12 (v1 : Vec Ideal S128x1 .f32) (v3 : Vec Ideal S128x256 .bf16) (v5 : Vec Ideal S8192x256 .bf16) (v8 : Vec Ideal S1x8192 .f32)
    (v14 : Vec Ideal S128x8192 .f32) (r : Fin 128) (j : Fin 1) :
    k0_pay12 v1 v3 v5 v8 v14 (ix2 r j)
      = (Finset.univ : Finset (Fin 8192)).fold max (Ideal.ofBits .f32 0xFF800000#32) (fun k => k0_pay11 v1 v3 v5 v8 v14 (ix2 r k)) := by
  pointwise [k0_pay12]

theorem aux13 (a : FVec Ideal S128x8192 .f32) (b : FVec Ideal S128x1 .f32) (r : Fin 128) :
    multiReductionI .minsi [1] S128 (select (cmpf .oge a (broadcastTo S128x8192 b broadcasts_S128x1_S128x8192))
        (iota .tc S128x8192 32 [1] iota_S128x8192_d1_w32) (broadcast S128x8192 8192#32)) 2147483647#32 reduces_S128x8192_S128 rfl (ix1 r)
      = (Finset.univ : Finset (Fin 8192)).fold IntOp.minsi 2147483647#32
        (fun k => if b (ix2 r 0) ≤ a (ix2 r k) then BitVec.ofNat 32 k.val else 8192#32) := by
  pointwise []

theorem eq13 (v1 : Vec Ideal S128x1 .f32) (v3 : Vec Ideal S128x256 .bf16) (v5 : Vec Ideal S8192x256 .bf16) (v8 : Vec Ideal S1x8192 .f32)
    (v14 : Vec Ideal S128x8192 .f32) :
    k0_pay13 v1 v3 v5 v8 v14 = multiReductionI .minsi [1] S128 (select (cmpf .oge (k0_pay11 v1 v3 v5 v8 v14) (broadcastTo S128x8192 (k0_pay12 v1 v3 v5 v8 v14) broadcasts_S128x1_S128x8192))
        (iota .tc S128x8192 32 [1] iota_S128x8192_d1_w32) (broadcast S128x8192 8192#32)) 2147483647#32 reduces_S128x8192_S128 rfl := rfl

theorem read14 (v1 : Vec Ideal S128x1 .f32) (v3 : Vec Ideal S128x256 .bf16) (v5 : Vec Ideal S8192x256 .bf16) (v8 : Vec Ideal S1x8192 .f32)
    (v14 : Vec Ideal S128x8192 .f32) (v31 : Vec Ideal S8192x384 .bf16) (r : Fin 128) (d : Fin 256) :
    k0_pay14 v1 v3 v5 v8 v14 v31 (ix2 r d)
      = Ideal.div
        (∑ k : Fin 8192, Ideal.exp ((k0_pay11 v1 v3 v5 v8 v14 (ix2 r k) - k0_pay12 v1 v3 v5 v8 v14 (ix2 r 0)) * Ideal.ofBits .f32 0x40000000#32)
          * v31 (ix2 k (⟨d.val, by omega⟩ : Fin 384)))
        (∑ k : Fin 8192, Ideal.exp ((k0_pay11 v1 v3 v5 v8 v14 (ix2 r k) - k0_pay12 v1 v3 v5 v8 v14 (ix2 r 0)) * Ideal.ofBits .f32 0x40000000#32)
          * v31 (ix2 k (256 : Fin 384))) := by
  pointwise [k0_pay14]

/-! ## Each value as a real -/

theorem pay1 (v : FVec Ideal S128x8192 .f32) (D : Fin 128 → Fin 8192 → ℝ) (hv : ∀ r k, v (ix2 r k) = (D r k : EReal))
    (r : Fin 128) (j : Fin 1) : k0_pay1 v (ix2 r j) = (rmin (D r) : EReal) := by
  rw [read1, bits_top]
  simp only [hv]
  rw [fold_min]

theorem pay2 (v : FVec Ideal S128x8192 .f32) (D : Fin 128 → Fin 8192 → ℝ) (hv : ∀ r k, v (ix2 r k) = (D r k : EReal))
    (r : Fin 128) (k : Fin 8192) : k0_pay2 v (ix2 r k) = (wd (D r) k : EReal) := by
  rw [read2, hv, pay1 v D hv, ← EReal.coe_sub, Ideal.exp_coe, wd]

theorem pay3 (v : FVec Ideal S128x8192 .f32) (D : Fin 128 → Fin 8192 → ℝ) (hv : ∀ r k, v (ix2 r k) = (D r k : EReal))
    (r : Fin 128) (j : Fin 1) : k0_pay3 v (ix2 r j) = ((∑ k, wd (D r) k : ℝ) : EReal) := by
  rw [read3]
  simp only [pay2 v D hv, coe_sum]

theorem pay4 (v : FVec Ideal S128x8192 .f32) (D : Fin 128 → Fin 8192 → ℝ) (hv : ∀ r k, v (ix2 r k) = (D r k : EReal))
    (r : Fin 128) (j : Fin 1) : k0_pay4 v (ix2 r j) = (com (D r) : EReal) := by
  rw [read4]
  simp only [hv, pay2 v D hv, pay3 v D hv, ← EReal.coe_mul, coe_sum]
  rw [div_coe_coe _ (sum_wd_pos (D r)).ne', com]

theorem pay9 : (k0_pay9 : Ideal .f32) = ((Real.log 8192 : ℝ) : EReal) := by
  show Ideal.log (Ideal.ofBits .f32 0x46000000#32) = _
  rw [bits_k, log_coe_pos (by norm_num)]

/-- The block's KL terms, summed. -/
theorem pay5 (v : FVec Ideal S128x8192 .f32) (D : Fin 128 → Fin 8192 → ℝ) (hv : ∀ r k, v (ix2 r k) = (D r k : EReal))
    (i j : Fin 1) : k0_pay5 (F := Ideal) k0_pay9 v (ix2 i j) = ((∑ r, kl (Real.log 8192) (D r) : ℝ) : EReal) := by
  rw [read5, ← coe_sum]
  refine Finset.sum_congr rfl fun r _ => ?_
  rw [Fin.sum_univ_one, pay9, pay1 v D hv, pay3 v D hv, pay4 v D hv, log_coe_pos (sum_wd_pos _), ← EReal.coe_sub, ← EReal.coe_add,
    ← EReal.coe_sub, kl]

/-- The block's commitment terms, summed. -/
theorem pay6 (v : FVec Ideal S128x8192 .f32) (D : Fin 128 → Fin 8192 → ℝ) (hv : ∀ r k, v (ix2 r k) = (D r k : EReal))
    (i j : Fin 1) : k0_pay6 v (ix2 i j) = ((∑ r, com (D r) : ℝ) : EReal) := by
  rw [read6, ← coe_sum]
  refine Finset.sum_congr rfl fun r _ => ?_
  rw [Fin.sum_univ_one, pay4 v D hv]

theorem pay12 (v1 : Vec Ideal S128x1 .f32) (v3 : Vec Ideal S128x256 .bf16) (v5 : Vec Ideal S8192x256 .bf16) (v8 : Vec Ideal S1x8192 .f32)
    (v14 : Vec Ideal S128x8192 .f32) (A : Fin 128 → Fin 8192 → ℝ) (hA : ∀ r k, k0_pay11 v1 v3 v5 v8 v14 (ix2 r k) = (A r k : EReal))
    (r : Fin 128) (j : Fin 1) : k0_pay12 v1 v3 v5 v8 v14 (ix2 r j) = (rmax (A r) : EReal) := by
  rw [read12, bits_bot]
  simp only [hA]
  rw [fold_max]

/-- The block's index words: each row's first maximizing code. -/
theorem pay13 (v1 : Vec Ideal S128x1 .f32) (v3 : Vec Ideal S128x256 .bf16) (v5 : Vec Ideal S8192x256 .bf16) (v8 : Vec Ideal S1x8192 .f32)
    (v14 : Vec Ideal S128x8192 .f32) (A : Fin 128 → Fin 8192 → ℝ) (hA : ∀ r k, k0_pay11 v1 v3 v5 v8 v14 (ix2 r k) = (A r k : EReal))
    (r : Fin 128) : k0_pay13 v1 v3 v5 v8 v14 (ix1 r) = BitVec.ofNat 32 (first (A r)).val := by
  rw [eq13, aux13]
  refine fold_minsi (A r) _ fun k => ?_
  rw [pay12 v1 v3 v5 v8 v14 A hA, hA]
  simp only [EReal.coe_le_coe_iff]

/-- The block's quantized vectors. -/
theorem pay14 (v1 : Vec Ideal S128x1 .f32) (v3 : Vec Ideal S128x256 .bf16) (v5 : Vec Ideal S8192x256 .bf16) (v8 : Vec Ideal S1x8192 .f32)
    (v14 : Vec Ideal S128x8192 .f32) (A : Fin 128 → Fin 8192 → ℝ) (hA : ∀ r k, k0_pay11 v1 v3 v5 v8 v14 (ix2 r k) = (A r k : EReal))
    (v31 : Vec Ideal S8192x384 .bf16) (C : Fin 8192 → Fin 256 → ℝ)
    (hC : ∀ k (d : Fin 256), v31 (ix2 k (⟨d.val, by omega⟩ : Fin 384)) = (C k d : EReal))
    (h1 : ∀ k, v31 (ix2 k (256 : Fin 384)) = (1 : EReal)) (r : Fin 128) (d : Fin 256) :
    k0_pay14 v1 v3 v5 v8 v14 v31 (ix2 r d) = (((∑ k, wt (A r) k * C k d) / ∑ k, wt (A r) k : ℝ) : EReal) := by
  rw [read14, pay12 v1 v3 v5 v8 v14 A hA]
  have h : ∀ k, Ideal.exp ((k0_pay11 v1 v3 v5 v8 v14 (ix2 r k) - (rmax (A r) : EReal)) * Ideal.ofBits .f32 0x40000000#32) = (wt (A r) k : EReal) :=
    fun k => by rw [hA, bits_two, ← EReal.coe_sub, ← EReal.coe_mul, Ideal.exp_coe, wt]
  simp only [h, hC, h1, mul_one, ← EReal.coe_mul, coe_sum]
  rw [div_coe_coe _ (sum_wt_pos (A r)).ne']

end Cert.Vq.Pay
-- ==== Proof.KerScatter.lean ====
/- Where the updates of a scatter into a table's leading columns land. -/
module

public import Idealize.ShloMosaic.Lib.Routing.OpsOne

@[expose] public section

noncomputable section

namespace Cert.Vq.Ker

open Idealize.ShloMosaic Idealize.ShloMosaic.Routing Idealize.ShloMosaic.ValueIdx

/-- A rectangle of a table's leading columns, set at column zero: update `(a, b)` lands at entry `(a, b)` and nowhere else. -/
theorem lands_lead {A B N : Nat} (d : ScatterDims (shape2 A N) (shape1 1) (shape2 A B))
    (huw : d.updateWindowDims = [0, 1]) (hiw : d.insertedWindowDims = []) (hsd : d.scatterDimsToOperandDims = [1])
    (idx : IVec (shape1 1) 32) (hidx : (idx (ix1 0)).toInt = 0)
    (a w : Fin A) (b : Fin B) (e : Fin N) :
    d.resultIdx? (ix2 a b) idx = some (ix2 w e) ↔ a = w ∧ b.val = e.val := by
  have hm : (1 : Fin 2) ∈ d.scatterDimsToOperandDims := by rw [hsd]; exact List.mem_singleton.2 rfl
  have hkept : d.sKept = [0, 1] := by
    show (shape2 A N).kept d.insertedWindowDims = _
    rw [hiw]
    rfl
  have g : ∀ (l : List (Fin 2)) (n : ℕ) (h : n < l.length) (m : Fin 2), l = [0, 1] → n = m.val → l[n]'h = m := by
    intro l n h m hl hn
    subst hl
    subst hn
    fin_cases m <;> rfl
  have hwin : ∀ q : Fin 2, d.window (ix2 a b) q = ((ix2 a b : (shape2 A B).Idx) q).val := fun q => by
    unfold ScatterDims.window
    rw [dif_pos (by rw [hkept]; fin_cases q <;> simp)]
    rw [g _ _ _ q huw (by rw [hkept]; fin_cases q <;> rfl)]
  have hstart0 : d.start (ix2 a b) idx 0 = 0 := by
    unfold ScatterDims.start
    rw [dif_neg fun h => by rw [hsd] at h; exact absurd (List.mem_singleton.1 h) (by decide : (0 : Fin 2) ≠ 1)]
  have hstart1 : d.start (ix2 a b) idx 1 = 0 := by
    unfold ScatterDims.start
    rw [dif_pos hm]
    have hsi : d.siIdx (ix2 a b) ⟨d.scatterDimsToOperandDims.idxOf 1, List.idxOf_lt_length_iff.2 hm⟩ = ix1 (0 : Fin 1) := by
      funext b'
      match b' with
      | ⟨0, _⟩ => exact Subsingleton.elim (α := Fin 1) _ _
    rw [hsi, hidx]
  rw [Fin.ext_iff, resultIdx?_ix2, hstart0, hwin 0, hstart1, hwin 1]
  show (0 + (a.val : Int) = _ ∧ 0 + (b.val : Int) = _) ↔ _
  omega

end Cert.Vq.Ker
-- ==== Proof.KerHost.lean ====
/- The launch's input arrays at real arguments, read at an index: the tokens' and the codes' sums of squares, the
   tokens times minus two, and the codebook with its column of ones. -/
module

public import proofs.«01_k».proof.Proof.KerPre
public import proofs.«01_k».proof.Proof.KerRun
public import proofs.«01_k».proof.Proof.KerPay
public import proofs.«01_k».proof.Proof.KerScatter

@[expose] public section

noncomputable section

namespace Cert.Vq.Ker

open Idealize.ShloMosaic Idealize.ShloMosaic.TcCoe Idealize.SL.Sem
open Cert.KernelIdeal Cert.KernelIdeal.Gen

variable (z : S4x256x32x32.Idx → ℝ) (c : S8192x256.Idx → ℝ) (g : S4096x8192.Idx → ℝ)

theorem bits_neg_two : Ideal.ofBits .f32 0xC0000000#32 = ((-2 : ℝ) : EReal) := by
  simp [Ideal.ofBits, Ideal.ieee]
  rw [← EReal.coe_mul]
  norm_num

theorem host_tok (n : Fin 4096) (d : Fin 256) : h_v1 (F := Ideal) (up z) (ix2 n d) = (tok z n d : EReal) := by
  pointwise [h_v1, h_v0]
  rfl

/-- The tokens times minus two. -/
theorem host_v4 (n : Fin 4096) (d : Fin 256) : h_v4 (F := Ideal) (up z) (ix2 n d) = ((-2 * tok z n d : ℝ) : EReal) := by
  pointwise [h_v4, h_v3, h_v2, h_cst]
  rw [host_tok, bits_neg_two, ← EReal.coe_mul]

/-- Each token's sum of squares. -/
theorem host_v17 (n : Fin 4096) (j : Fin 1) : h_v17 (F := Ideal) (up z) (ix2 n j) = ((∑ d, tok z n d * tok z n d : ℝ) : EReal) := by
  pointwise [h_v17, h_v16, h_v15, h_cst_4]
  simp only [host_tok, ← EReal.coe_mul, coe_sum]

/-- Each code's sum of squares. -/
theorem host_v14 (i : Fin 1) (k : Fin 8192) : h_v14 (F := Ideal) (up c) (ix2 i k) = ((∑ d : Fin 256, c (ix2 k d) * c (ix2 k d) : ℝ) : EReal) := by
  pointwise [h_v14, h_v13, h_v12, h_cst_3]
  simp only [← EReal.coe_mul, coe_sum]

theorem host_v6 (k : Fin 8192) (d : Fin 256) : h_v6 (F := Ideal) (up c) (ix2 k d) = (c (ix2 k d) : EReal) := by
  pointwise [h_v6]

theorem host_v10 (k : Fin 8192) : h_v10 (F := Ideal) (ix1 k) = (1 : EReal) := by
  pointwise [h_v10, h_cst_2]

theorem host_v7 : ((h_v7 (F := Ideal) : IVec S1 32) (ix1 (0 : Fin 1))).toInt = 0 := by
  rw [show (h_v7 (F := Ideal) : IVec S1 32) (ix1 (0 : Fin 1)) = 0#32 by pointwise [h_v7, h_c]]
  decide

theorem host_v9 : ((h_v9 (F := Ideal) : IVec S1 32) (ix1 (0 : Fin 1))).toInt = ((256 : Fin 384).val : Int) := by
  rw [show (h_v9 (F := Ideal) : IVec S1 32) (ix1 (0 : Fin 1)) = 256#32 by pointwise [h_v9, h_c_1]]
  decide

/-- Setting the leading columns, read in one of them. -/
theorem put_lead (x : Vec Ideal S8192x384 .bf16) (i : Vec Ideal S1 .i32) (w : Vec Ideal S8192x256 .bf16)
    (hi : ((i : IVec S1 32) (ix1 (0 : Fin 1))).toInt = 0) (k : Fin 8192) (d : Fin 256) :
    put scatter_S8192x384_S1_S8192x256_01_n_1_0 x i w (ix2 k (⟨d.val, by omega⟩ : Fin 384)) = w (ix2 k d) := by
  refine Routing.scatter_set_hit scatter_S8192x384_S1_S8192x256_01_n_1_0 x i w _ _ (fun j hj => ?_) (ix2 k d)
    ((lands_lead scatter_S8192x384_S1_S8192x256_01_n_1_0 rfl rfl rfl i hi k k d ⟨d.val, by omega⟩).2 ⟨rfl, rfl⟩)
  obtain ⟨a, b, rfl⟩ : ∃ (a : Fin 8192) (b : Fin 256), j = ix2 a b := ⟨j 0, j 1, eq_ix2 j⟩
  obtain ⟨rfl, h⟩ := (lands_lead scatter_S8192x384_S1_S8192x256_01_n_1_0 rfl rfl rfl i hi a k b ⟨d.val, by omega⟩).1 hj
  rw [Fin.ext (a := b) (b := d) h]

/-- Setting column 256, read in it. -/
theorem put_col (x : Vec Ideal S8192x384 .bf16) (i : Vec Ideal S1 .i32) (w : Vec Ideal S8192 .bf16)
    (hi : ((i : IVec S1 32) (ix1 (0 : Fin 1))).toInt = ((256 : Fin 384).val : Int)) (k : Fin 8192) :
    put scatter_S8192x384_S1_S8192_0_1_1_0 x i w (ix2 k (256 : Fin 384)) = w (ix1 k) := by
  refine Routing.scatter_set_hit scatter_S8192x384_S1_S8192_0_1_1_0 x i w _ _ (fun j hj => ?_) (ix1 k)
    ((Routing.lands_col scatter_S8192x384_S1_S8192_0_1_1_0 rfl rfl i 256 hi k k 256).2 ⟨rfl, rfl⟩)
  obtain ⟨a, rfl⟩ : ∃ a : Fin 8192, j = ix1 a := ⟨j 0, eq_ix1 j⟩
  obtain ⟨rfl, -⟩ := (Routing.lands_col scatter_S8192x384_S1_S8192_0_1_1_0 rfl rfl i 256 hi a k 256).1 hj
  rfl

/-- Setting column 256, read elsewhere. -/
theorem put_col_ne (x : Vec Ideal S8192x384 .bf16) (i : Vec Ideal S1 .i32) (w : Vec Ideal S8192 .bf16)
    (hi : ((i : IVec S1 32) (ix1 (0 : Fin 1))).toInt = ((256 : Fin 384).val : Int)) (k : Fin 8192) (e : Fin 384) (he : e ≠ 256) :
    put scatter_S8192x384_S1_S8192_0_1_1_0 x i w (ix2 k e) = x (ix2 k e) := by
  refine Routing.scatter_set_miss scatter_S8192x384_S1_S8192_0_1_1_0 x i w _ fun j hj => ?_
  obtain ⟨a, rfl⟩ : ∃ a : Fin 8192, j = ix1 a := ⟨j 0, eq_ix1 j⟩
  exact he ((Routing.lands_col scatter_S8192x384_S1_S8192_0_1_1_0 rfl rfl i 256 hi a k e).1 hj).2

/-- The extended codebook's first 256 columns are the codebook. -/
theorem host_book (k : Fin 8192) (d : Fin 256) : h_v11 (F := Ideal) (up c) (ix2 k (⟨d.val, by omega⟩ : Fin 384)) = (c (ix2 k d) : EReal) := by
  unfold h_v11
  rw [put_col_ne _ _ _ host_v9 k _ (fun h => by have := congrArg Fin.val h; have h2 := d.isLt; simp at this; omega)]
  unfold h_v8
  rw [put_lead _ _ _ host_v7 k d, host_v6]

/-- Its next column is ones. -/
theorem host_ones (k : Fin 8192) : h_v11 (F := Ideal) (up c) (ix2 k (256 : Fin 384)) = (1 : EReal) := by
  unfold h_v11
  rw [put_col _ _ _ host_v9 k, host_v10]

end Cert.Vq.Ker
-- ==== Proof.KerVal.lean ====
/- The kernel's four result arrays at real arguments. -/
module

public import proofs.«01_k».proof.Proof.KerHost
public import Idealize.ShloMosaic.Lib.Pipeline.ValueKit.Tiles

@[expose] public section

noncomputable section

namespace Cert.Vq.Ker

open Idealize.ShloMosaic Idealize.ShloMosaic.TcCoe Idealize.SL.Sem
open Idealize.ShloMosaic.Pipeline (Dat)
open Cert.KernelIdeal Cert.KernelIdeal.Gen

variable (z : S4x256x32x32.Idx → ℝ) (c : S8192x256.Idx → ℝ) (g : S4096x8192.Idx → ℝ)
variable (m : (ℓ : Loc nD τ sig) → Buf (Elt Ideal) ℓ) (e : Dev nD)

/-! ## The input arrays and their blocks -/

/-- Row `r` of block `t`. -/
def row (t : Fin cfg0.N) (r : Fin 128) : Fin 4096 := ⟨t.val * 128 + r.val, by have h : t.val < 32 := lt_of_lt_of_eq t.isLt N_0; omega⟩

theorem V_eq (b : Ref sig .tc) : V m e b = StableHlo.after hostOps0 (fun b => m (e, b)) (Proc.devRef .tc b) := by
  show StableHlo.after (List.flatten [hostOps0]) _ _ = _
  rw [List.flatten_cons, List.flatten_nil, List.append_nil]

theorem V_v17 : V m e main_call0_v17 = h_v17 (m ((e : Thread nD τ).loc main_arg0)) := (V_eq m e _).trans (at_v17 _)

theorem V_v4 : V m e main_call0_v4 = h_v4 (m ((e : Thread nD τ).loc main_arg0)) := (V_eq m e _).trans (at_v4 _)

theorem V_v11 : V m e main_call0_v11 = h_v11 (m ((e : Thread nD τ).loc main_arg1)) := (V_eq m e _).trans (at_v11 _)

theorem V_v14 : V m e main_call0_v14 = h_v14 (m ((e : Thread nD τ).loc main_arg1)) := (V_eq m e _).trans (at_v14 _)

theorem at0_0 : ∀ t : Fin grid0.N, win0_0.index t 0 = t.val := by decide +kernel

theorem at0_1 : ∀ t : Fin grid0.N, win0_1.index t 0 = t.val := by decide +kernel

theorem at0_4 : ∀ t : Fin grid0.N, win0_4.index t 0 = t.val := by decide +kernel

theorem at0_5 : ∀ t : Fin grid0.N, win0_5.index t 0 = t.val := by decide +kernel

theorem at0_6 : ∀ t : Fin grid0.N, win0_6.index t 0 = t.val := by decide +kernel

theorem blk_0 (t : Fin cfg0.N) (r : Fin 128) (j : Fin 1) : (iblk m e 0 t : Vec Ideal S128x1 .f32) (ix2 r j) = V m e main_call0_v17 (ix2 (row t r) j) := by
  unfold iblk
  rw [View.read_apply]
  show V m e main_call0_v17 _ = _
  congr 1
  funext a
  apply Fin.ext
  match a with
  | ⟨0, _⟩ =>
    show win0_0.index t 0 * 128 + 1 * r.val = t.val * 128 + r.val
    rw [at0_0 t]; omega
  | ⟨1, _⟩ =>
    show 0 * 1 + 1 * j.val = j.val
    omega

theorem blk_1 (t : Fin cfg0.N) (r : Fin 128) (d : Fin 256) : (iblk m e 1 t : Vec Ideal S128x256 .bf16) (ix2 r d) = V m e main_call0_v4 (ix2 (row t r) d) := by
  unfold iblk
  rw [View.read_apply]
  show V m e main_call0_v4 _ = _
  congr 1
  funext a
  apply Fin.ext
  match a with
  | ⟨0, _⟩ =>
    show win0_1.index t 0 * 128 + 1 * r.val = t.val * 128 + r.val
    rw [at0_1 t]; omega
  | ⟨1, _⟩ =>
    show 0 * 256 + 1 * d.val = d.val
    omega

theorem blk_2 (t : Fin cfg0.N) (k : Fin 8192) (d : Fin 384) : (iblk m e 2 t : Vec Ideal S8192x384 .bf16) (ix2 k d) = V m e main_call0_v11 (ix2 k d) := by
  unfold iblk
  rw [View.read_apply]
  show V m e main_call0_v11 _ = _
  congr 1
  funext a
  apply Fin.ext
  match a with
  | ⟨0, _⟩ =>
    show 0 * 8192 + 1 * k.val = k.val
    omega
  | ⟨1, _⟩ =>
    show 0 * 384 + 1 * d.val = d.val
    omega

theorem blk_3 (t : Fin cfg0.N) (j : Fin 1) (k : Fin 8192) : (iblk m e 3 t : Vec Ideal S1x8192 .f32) (ix2 j k) = V m e main_call0_v14 (ix2 j k) := by
  unfold iblk
  rw [View.read_apply]
  show V m e main_call0_v14 _ = _
  congr 1
  funext a
  apply Fin.ext
  match a with
  | ⟨0, _⟩ =>
    show 0 * 1 + 1 * j.val = j.val
    omega
  | ⟨1, _⟩ =>
    show 0 * 8192 + 1 * k.val = k.val
    omega

theorem blk_4 (t : Fin cfg0.N) (r : Fin 128) (k : Fin 8192) : (iblk m e 4 t : Vec Ideal S128x8192 .f32) (ix2 r k) = V m e main_arg2 (ix2 (row t r) k) := by
  unfold iblk
  rw [View.read_apply]
  show V m e main_arg2 _ = _
  congr 1
  funext a
  apply Fin.ext
  match a with
  | ⟨0, _⟩ =>
    show win0_4.index t 0 * 128 + 1 * r.val = t.val * 128 + r.val
    rw [at0_4 t]; omega
  | ⟨1, _⟩ =>
    show 0 * 8192 + 1 * k.val = k.val
    omega

theorem book_apply (x : Vec Ideal S8192x384 .bf16) (k : Fin 8192) (d : Fin 256) : book x (ix2 k d) = x (ix2 k (⟨d.val, by omega⟩ : Fin 384)) := by
  unfold book
  refine View.ld_unit_apply_of x _ _ _ _ _ fun a => ?_
  match a with
  | ⟨0, _⟩ => show k.val = 0 + k.val; omega
  | ⟨1, _⟩ => show d.val = 0 + d.val; omega

/-! ## The blocks' values -/

/-- The kernel's distance is the reference's: the same three terms, the factor minus two taken out of the contraction. -/
theorem dist_of (n : Fin 4096) (k : Fin 8192) (r : Fin 128) (v1 : Vec Ideal S128x1 .f32) (v3 : Vec Ideal S128x256 .bf16) (v5 : Vec Ideal S8192x256 .bf16)
    (v8 : Vec Ideal S1x8192 .f32) (h8 : v8 (ix2 0 k) = ((∑ d : Fin 256, c (ix2 k d) * c (ix2 k d) : ℝ) : EReal))
    (h1 : v1 (ix2 r 0) = ((∑ d, tok z n d * tok z n d : ℝ) : EReal)) (h3 : ∀ d, v3 (ix2 r d) = ((-2 * tok z n d : ℝ) : EReal))
    (h5 : ∀ d, v5 (ix2 k d) = (c (ix2 k d) : EReal)) : k0_pay10 v1 v3 v5 v8 (ix2 r k) = (dist z c n k : EReal) := by
  rw [Pay.read10, h8, h1]
  simp only [h3, h5, ← EReal.coe_mul, coe_sum, ← EReal.coe_add]
  congr 1
  unfold dist
  rw [sub_eq_add_neg, Finset.mul_sum, ← Finset.sum_neg_distrib]
  congr 1
  exact Finset.sum_congr rfl fun d _ => by ring

theorem noisy_of (n : Fin 4096) (k : Fin 8192) (r : Fin 128) (v1 : Vec Ideal S128x1 .f32) (v3 : Vec Ideal S128x256 .bf16) (v5 : Vec Ideal S8192x256 .bf16)
    (v8 : Vec Ideal S1x8192 .f32) (v14 : Vec Ideal S128x8192 .f32) (h14 : v14 (ix2 r k) = (g (ix2 n k) : EReal))
    (hd : k0_pay10 v1 v3 v5 v8 (ix2 r k) = (dist z c n k : EReal)) :
    k0_pay11 v1 v3 v5 v8 v14 (ix2 r k) = (noisy z c g n k : EReal) := by
  rw [Pay.read11, hd, h14, ← EReal.coe_sub]
  rfl

variable (hz : m ((e : Thread nD τ).loc main_arg0) = up z) (hc : m ((e : Thread nD τ).loc main_arg1) = up c)
  (hg : m ((e : Thread nD τ).loc main_arg2) = up g)

include hc in
theorem code_blk (t : Fin cfg0.N) (k : Fin 8192) (d : Fin 256) :
    (iblk m e 2 t : Vec Ideal S8192x384 .bf16) (ix2 k (⟨d.val, by omega⟩ : Fin 384)) = (c (ix2 k d) : EReal) := by
  rw [blk_2, V_v11, hc, host_book]

include hc in
theorem ones_blk (t : Fin cfg0.N) (k : Fin 8192) : (iblk m e 2 t : Vec Ideal S8192x384 .bf16) (ix2 k (256 : Fin 384)) = (1 : EReal) := by
  rw [blk_2, V_v11, hc, host_ones]

include hz hc in
/-- A block's distances are the tokens' distances. -/
theorem dst_blk (t : Fin cfg0.N) (r : Fin 128) (k : Fin 8192) : dst m e t (ix2 r k) = (dist z c (row t r) k : EReal) :=
  dist_of z c (row t r) k r _ _ _ _ (by rw [blk_3, V_v14, hc, host_v14]) (by rw [blk_0, V_v17, hz, host_v17])
    (fun d => by rw [blk_1, V_v4, hz, host_v4]) (fun d => by rw [book_apply, code_blk c m e hc t k d])

include hz hc hg in
/-- A block's noisy logits. -/
theorem noisy_blk (t : Fin cfg0.N) (r : Fin 128) (k : Fin 8192) :
    k0_pay11 (iblk m e 0 t) (iblk m e 1 t) (book (iblk m e 2 t)) (iblk m e 3 t) (iblk m e 4 t) (ix2 r k) = (noisy z c g (row t r) k : EReal) :=
  noisy_of z c g (row t r) k r _ _ _ _ _ (by rw [blk_4, V_main_arg2, hg]) (dst_blk z c m e hz hc t r k)

end Cert.Vq.Ker
-- ==== Proof.KerOut.lean ====
/- The kernel's four result arrays: what the region leaves in each of them at real arguments. -/
module

public import proofs.«01_k».proof.Proof.KerVal

@[expose] public section

noncomputable section

namespace Cert.Vq.Ker

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (e : Dev nD)

/-! ## From the blocks to the arrays -/

/-- An array of quantized vectors, entry by entry. -/
abbrev arr5 (q : Fin 4096 → Fin 256 → EReal) : Buf (Elt Ideal) ((e : Thread nD τ).loc main_call0_v18_0) :=
  (fun i => q (i 0) (i 1) : Vec Ideal S4096x256 .f32)

/-- An array of indices, entry by entry. -/
abbrev arr6 (q : Fin 4096 → BitVec 32) : Buf (Elt Ideal) ((e : Thread nD τ).loc main_call0_v18_1) :=
  (fun i => q (i 0) : Vec Ideal S4096 .i32)

/-- The block of the quantized vectors at point `t`, read from an array. -/
theorem read_5 (f : Buf (Elt Ideal) ((e : Thread nD τ).loc main_call0_v18_0)) (t : Fin cfg0.N) (r : Fin 128) (d : Fin 256) :
    (((cfg0.win 5).blk t).view.read (Elt Ideal) f : Vec Ideal S128x256 .f32) (ix2 r d) = (f : Vec Ideal S4096x256 .f32) (ix2 (row t r) d) := by
  rw [View.read_apply]
  show f _ = f _
  congr 1
  funext a
  apply Fin.ext
  match a with
  | ⟨0, _⟩ =>
    show win0_5.index t 0 * 128 + 1 * r.val = t.val * 128 + r.val
    rw [at0_5 t]; omega
  | ⟨1, _⟩ =>
    show 0 * 256 + 1 * d.val = d.val
    omega

theorem flushed_5 (q : Fin 4096 → Fin 256 → EReal) (t : Fin cfg0.N)
    (h : ∀ r d, (outsAt0 m e t.val t.isLt).1 (ix2 r d) = q (row t r) d) :
    (dats m 0 e).flushed 5 t = ((cfg0.win 5).blk t).view.read (Elt Ideal) (arr5 e q) := by
  show (cfg0.win 5).cut (grid0.coords t) ((dats m 0 e).after 5 t) = _
  rw [after0_5]
  generalize (outsAt0 m e t.val t.isLt).1 = y at h
  have hr : ∀ j : S128x256.Idx, y j = (((cfg0.win 5).blk t).view.read (Elt Ideal) (arr5 e q) : Vec Ideal S128x256 .f32) j := by
    intro j
    obtain ⟨r, d, rfl⟩ : ∃ (r : Fin 128) (d : Fin 256), j = ix2 r d := ⟨j 0, j 1, eq_ix2 j⟩
    rw [read_5 e (arr5 e q) t r d, h r d]
    rfl
  generalize ((cfg0.win 5).blk t).view.read (Elt Ideal) (arr5 e q) = w at hr
  exact funext hr

/-- The point whose block holds token `n`. -/
def pt (n : Fin 4096) : Fin cfg0.N := ⟨n.val / 128, by have hN : cfg0.N = 32 := N_0; omega⟩

/-- The array of quantized vectors ends holding `q`, if each point's block does. -/
theorem final_5 (q : Fin 4096 → Fin 256 → EReal)
    (h : ∀ (t : Fin cfg0.N) r d, (outsAt0 m e t.val t.isLt).1 (ix2 r d) = q (row t r) d) :
    (dats m 0 e).arrAt 5 cfg0.N = arr5 e q :=
  (dats m 0 e).arrAt_eq_of_cover 5 (arr5 e q) (fun t _ => flushed_5 m e q t (h t)) fun i =>
    ⟨pt (i 0), flush0_5 _, by
      show i ∈ ((View.whole main_call0_v18_0).slice (win0_5.rect (pt (i 0)))).set
      rw [View.set_slice_whole, Rect.mem_set_unit]
      intro a
      have h0 : (i 0 : Nat) < 4096 := (i 0).isLt
      have h1 : (i 1 : Nat) < 256 := (i 1).isLt
      match a with
      | ⟨0, _⟩ =>
        show win0_5.index (pt (i 0)) 0 * 128 ≤ (i 0 : Nat) ∧ (i 0 : Nat) < win0_5.index (pt (i 0)) 0 * 128 + 128
        rw [at0_5]
        show (i 0 : Nat) / 128 * 128 ≤ (i 0 : Nat) ∧ (i 0 : Nat) < (i 0 : Nat) / 128 * 128 + 128
        omega
      | ⟨1, _⟩ =>
        show 0 * 256 ≤ (i 1 : Nat) ∧ (i 1 : Nat) < 0 * 256 + 256
        omega⟩

/-- The block of the indices at point `t`, read from an array. -/
theorem read_6 (f : Buf (Elt Ideal) ((e : Thread nD τ).loc main_call0_v18_1)) (t : Fin cfg0.N) (r : Fin 128) :
    (((cfg0.win 6).blk t).view.read (Elt Ideal) f : Vec Ideal S128 .i32) (ix1 r) = (f : Vec Ideal S4096 .i32) (ix1 (row t r)) := by
  rw [View.read_apply]
  show f _ = f _
  congr 1
  funext a
  apply Fin.ext
  match a with
  | ⟨0, _⟩ =>
    show win0_6.index t 0 * 128 + 1 * r.val = t.val * 128 + r.val
    rw [at0_6 t]; omega

theorem flushed_6 (q : Fin 4096 → BitVec 32) (t : Fin cfg0.N)
    (h : ∀ r, (outsAt0 m e t.val t.isLt).2.1 (ix1 r) = q (row t r)) :
    (dats m 0 e).flushed 6 t = ((cfg0.win 6).blk t).view.read (Elt Ideal) (arr6 e q) := by
  show (cfg0.win 6).cut (grid0.coords t) ((dats m 0 e).after 6 t) = _
  rw [after0_6]
  generalize (outsAt0 m e t.val t.isLt).2.1 = y at h
  have hr : ∀ j : S128.Idx, y j = (((cfg0.win 6).blk t).view.read (Elt Ideal) (arr6 e q) : Vec Ideal S128 .i32) j := by
    intro j
    obtain ⟨r, rfl⟩ : ∃ r : Fin 128, j = ix1 r := ⟨j 0, eq_ix1 j⟩
    rw [read_6 e (arr6 e q) t r, h r]
    rfl
  generalize ((cfg0.win 6).blk t).view.read (Elt Ideal) (arr6 e q) = w at hr
  exact funext hr

/-- The array of indices ends holding `q`, if each point's block does. -/
theorem final_6 (q : Fin 4096 → BitVec 32)
    (h : ∀ (t : Fin cfg0.N) r, (outsAt0 m e t.val t.isLt).2.1 (ix1 r) = q (row t r)) :
    (dats m 0 e).arrAt 6 cfg0.N = arr6 e q :=
  (dats m 0 e).arrAt_eq_of_cover 6 (arr6 e q) (fun t _ => flushed_6 m e q t (h t)) fun i =>
    ⟨pt (i 0), flush0_6 _, by
      show i ∈ ((View.whole main_call0_v18_1).slice (win0_6.rect (pt (i 0)))).set
      rw [View.set_slice_whole, Rect.mem_set_unit]
      intro a
      have h0 : (i 0 : Nat) < 4096 := (i 0).isLt
      match a with
      | ⟨0, _⟩ =>
        show win0_6.index (pt (i 0)) 0 * 128 ≤ (i 0 : Nat) ∧ (i 0 : Nat) < win0_6.index (pt (i 0)) 0 * 128 + 128
        rw [at0_6]
        show (i 0 : Nat) / 128 * 128 ≤ (i 0 : Nat) ∧ (i 0 : Nat) < (i 0 : Nat) / 128 * 128 + 128
        omega⟩

/-- The last point. -/
def pl : Fin cfg0.N := ⟨31, by rw [show cfg0.N = 32 from N_0]; decide⟩

/-- The KL array: what the last point leaves. -/
abbrev arr7 : Buf (Elt Ideal) ((e : Thread nD τ).loc main_call0_v18_2) := (outsAt0 m e 31 (by rw [show cfg0.N = 32 from N_0]; decide)).2.2.1

/-- The commitment array: what the last point leaves. -/
abbrev arr8 : Buf (Elt Ideal) ((e : Thread nD τ).loc main_call0_v18_3) := (outsAt0 m e 31 (by rw [show cfg0.N = 32 from N_0]; decide)).2.2.2

theorem last_point (t : Fin cfg0.N) (hf : t.val % 32 = 31) : t = pl := by
  have hN : cfg0.N = 32 := N_0
  have := t.isLt
  exact Fin.ext (by show t.val = 31; omega)

theorem flushed_7 (t : Fin cfg0.N) (hf : (cfg0.win 7).flush t = true) :
    (dats m 0 e).flushed 7 t = ((cfg0.win 7).blk t).view.read (Elt Ideal) (arr7 m e) := by
  obtain rfl := last_point t ((flush0_7 t).mp hf)
  show (cfg0.win 7).cut (grid0.coords pl) ((dats m 0 e).after 7 pl) = _
  rw [after0_7]
  have hz' : (fun a => win0_7.index pl a * main_call0_v18_2.ty.shape.size a) = fun _ => 0 :=
    funext fun a => by fin_cases a <;> rfl
  have ho : (outsAt0 m e pl.val pl.isLt).2.2.1 = arr7 m e := rfl
  rw [ho]
  generalize arr7 m e = y
  exact (Memref.read_access_unit_zero (Elt Ideal) main_call0_v18_2 hz' (fun a => by rw [congrFun hz' a]; simp) y).symm

/-- The KL array ends at what the last point leaves. -/
theorem final_7 : (dats m 0 e).arrAt 7 cfg0.N = arr7 m e :=
  (dats m 0 e).arrAt_eq_of_cover 7 (arr7 m e) (flushed_7 m e) fun i =>
    ⟨pl, (flush0_7 pl).mpr rfl, by
      show i ∈ ((View.whole main_call0_v18_2).slice (win0_7.rect pl)).set
      rw [View.set_slice_whole, Rect.mem_set_unit]
      intro a
      have h0 : (i 0 : Nat) < 1 := (i 0).isLt
      have h1 : (i 1 : Nat) < 1 := (i 1).isLt
      match a with
      | ⟨0, _⟩ => show 0 * 1 ≤ (i 0 : Nat) ∧ (i 0 : Nat) < 0 * 1 + 1; omega
      | ⟨1, _⟩ => show 0 * 1 ≤ (i 1 : Nat) ∧ (i 1 : Nat) < 0 * 1 + 1; omega⟩

theorem flushed_8 (t : Fin cfg0.N) (hf : (cfg0.win 8).flush t = true) :
    (dats m 0 e).flushed 8 t = ((cfg0.win 8).blk t).view.read (Elt Ideal) (arr8 m e) := by
  obtain rfl := last_point t ((flush0_8 t).mp hf)
  show (cfg0.win 8).cut (grid0.coords pl) ((dats m 0 e).after 8 pl) = _
  rw [after0_8]
  have hz' : (fun a => win0_8.index pl a * main_call0_v18_3.ty.shape.size a) = fun _ => 0 :=
    funext fun a => by fin_cases a <;> rfl
  have ho : (outsAt0 m e pl.val pl.isLt).2.2.2 = arr8 m e := rfl
  rw [ho]
  generalize arr8 m e = y
  exact (Memref.read_access_unit_zero (Elt Ideal) main_call0_v18_3 hz' (fun a => by rw [congrFun hz' a]; simp) y).symm

/-- The commitment array ends at what the last point leaves. -/
theorem final_8 : (dats m 0 e).arrAt 8 cfg0.N = arr8 m e :=
  (dats m 0 e).arrAt_eq_of_cover 8 (arr8 m e) (flushed_8 m e) fun i =>
    ⟨pl, (flush0_8 pl).mpr rfl, by
      show i ∈ ((View.whole main_call0_v18_3).slice (win0_8.rect pl)).set
      rw [View.set_slice_whole, Rect.mem_set_unit]
      intro a
      have h0 : (i 0 : Nat) < 1 := (i 0).isLt
      have h1 : (i 1 : Nat) < 1 := (i 1).isLt
      match a with
      | ⟨0, _⟩ => show 0 * 1 ≤ (i 0 : Nat) ∧ (i 0 : Nat) < 0 * 1 + 1; omega
      | ⟨1, _⟩ => show 0 * 1 ≤ (i 1 : Nat) ∧ (i 1 : Nat) < 0 * 1 + 1; omega⟩

/-! ## The sums over the blocks -/

theorem add7 (L : Ideal .f32) (v : FVec Ideal S128x8192 .f32) (a : Vec Ideal S1x1 .f32) (i j : Fin 1) :
    k0_pay7 L v a (ix2 i j) = a (ix2 i j) + k0_pay5 L v (ix2 i j) := by
  have h : k0_pay7 L v a = addf (shapeCast S1x1 a shapeCasts_S1x1_S1x1) (k0_pay5 L v) := rfl
  rw [h]
  generalize k0_pay5 L v = b
  show shapeCast S1x1 a shapeCasts_S1x1_S1x1 (ix2 i j) + b (ix2 i j) = _
  rw [shapeCast_apply a shapeCasts_S1x1_S1x1 (ix2 i j) (ix2 i j) rfl]

theorem add8 (v : FVec Ideal S128x8192 .f32) (a : Vec Ideal S1x1 .f32) (i j : Fin 1) :
    k0_pay8 v a (ix2 i j) = a (ix2 i j) + k0_pay6 v (ix2 i j) := by
  have h : k0_pay8 v a = addf (shapeCast S1x1 a shapeCasts_S1x1_S1x1) (k0_pay6 v) := rfl
  rw [h]
  generalize k0_pay6 v = b
  show shapeCast S1x1 a shapeCasts_S1x1_S1x1 (ix2 i j) + b (ix2 i j) = _
  rw [shapeCast_apply a shapeCasts_S1x1_S1x1 (ix2 i j) (ix2 i j) rfl]

/-- A token's term in a sum over all tokens, by its number. -/
def term (f : Fin 4096 → ℝ) (q : ℕ) : ℝ := if h : q < 4096 then f ⟨q, h⟩ else 0

/-- Thirty-two blocks of 128 tokens are all the tokens. -/
theorem sum_blocks (f : Fin 4096 → ℝ) :
    ∑ b ∈ Finset.range 32, ∑ r : Fin 128, term f (b * 128 + r.val) = ∑ n, f n := by
  rw [Finset.sum_range, ← Fintype.sum_prod_type', ← (finProdFinEquiv (m := 32) (n := 128)).sum_comp]
  refine Finset.sum_congr rfl fun x _ => ?_
  have h : x.1.val * 128 + x.2.val < 4096 := by have h1 := x.1.isLt; have h2 := x.2.isLt; omega
  unfold term
  rw [dif_pos h]
  congr 1
  apply Fin.ext
  show x.1.val * 128 + x.2.val = x.2.val + 128 * x.1.val
  omega

theorem term_row (f : Fin 4096 → ℝ) (t : Fin cfg0.N) (r : Fin 128) : term f (t.val * 128 + r.val) = f (row t r) := by
  unfold term
  have h : t.val * 128 + r.val < 4096 := (row t r).isLt
  rw [dif_pos h]
  rfl

variable (z : S4x256x32x32.Idx → ℝ) (c : S8192x256.Idx → ℝ) (g : S4096x8192.Idx → ℝ)
variable (hz : m ((e : Thread nD τ).loc main_arg0) = up z) (hc : m ((e : Thread nD τ).loc main_arg1) = up c)
  (hg : m ((e : Thread nD τ).loc main_arg2) = up g)

include hz hc in
/-- After point `n` the KL array holds the terms of the tokens of the blocks so far. -/
theorem run_7 (i j : Fin 1) : ∀ (n : ℕ) (h : n < cfg0.N), (outsAt0 m e n h).2.2.1 (ix2 i j)
    = ((∑ b ∈ Finset.range (n + 1), ∑ r : Fin 128, term (fun n => kl (Real.log 8192) (dist z c n)) (b * 128 + r.val) : ℝ) : EReal)
  | 0, h => by
    rw [outs_7_zero m e h, Pay.pay5 _ (fun r k => dist z c (row ⟨0, h⟩ r) k) (dst_blk z c m e hz hc ⟨0, h⟩), Finset.sum_range_one]
    simp only [← term_row (fun n => kl (Real.log 8192) (dist z c n))]
  | n + 1, h => by
    rw [outs_7_succ m e n h, add7, run_7 i j n, Pay.pay5 _ (fun r k => dist z c (row ⟨n + 1, h⟩ r) k) (dst_blk z c m e hz hc ⟨n + 1, h⟩), ← EReal.coe_add,
      Finset.sum_range_succ _ (n + 1)]
    simp only [← term_row (fun n => kl (Real.log 8192) (dist z c n))]

include hz hc in
/-- After point `n` the commitment array holds the terms of the tokens of the blocks so far. -/
theorem run_8 (i j : Fin 1) : ∀ (n : ℕ) (h : n < cfg0.N), (outsAt0 m e n h).2.2.2 (ix2 i j)
    = ((∑ b ∈ Finset.range (n + 1), ∑ r : Fin 128, term (fun n => com (dist z c n)) (b * 128 + r.val) : ℝ) : EReal)
  | 0, h => by
    rw [outs_8_zero m e h, Pay.pay6 _ (fun r k => dist z c (row ⟨0, h⟩ r) k) (dst_blk z c m e hz hc ⟨0, h⟩), Finset.sum_range_one]
    simp only [← term_row (fun n => com (dist z c n))]
  | n + 1, h => by
    rw [outs_8_succ m e n h, add8, run_8 i j n, Pay.pay6 _ (fun r k => dist z c (row ⟨n + 1, h⟩ r) k) (dst_blk z c m e hz hc ⟨n + 1, h⟩), ← EReal.coe_add,
      Finset.sum_range_succ _ (n + 1)]
    simp only [← term_row (fun n => com (dist z c n))]

include hz hc hg in
/-- The region leaves the soft codewords of all tokens. -/
theorem ker_5 : (dats m 0 e).arrAt 5 cfg0.N
    = arr5 e fun n d => (((∑ k, wt (noisy z c g n) k * c (ix2 k d)) / ∑ k, wt (noisy z c g n) k : ℝ) : EReal) :=
  final_5 m e _ fun t r d => by
    rw [outs_5, Pay.pay14 _ _ _ _ _ (fun r k => noisy z c g (row t r) k) (noisy_blk z c g m e hz hc hg t) _ (fun k d => c (ix2 k d)) (code_blk c m e hc t) (ones_blk c m e hc t)]

include hz hc hg in
/-- The region leaves the indices of all tokens. -/
theorem ker_6 : (dats m 0 e).arrAt 6 cfg0.N = arr6 e fun n => BitVec.ofNat 32 (first (noisy z c g n)).val :=
  final_6 m e _ fun t r => by
    rw [outs_6, Pay.pay13 _ _ _ _ _ (fun r k => noisy z c g (row t r) k) (noisy_blk z c g m e hz hc hg t)]

include hz hc in
/-- The region leaves the KL terms of all tokens, summed. -/
theorem ker_7 (i j : Fin 1) : (arr7 m e : Vec Ideal S1x1 .f32) (ix2 i j) = ((∑ n, kl (Real.log 8192) (dist z c n) : ℝ) : EReal) :=
  (run_7 m e z c hz hc i j 31 _).trans (congrArg _ (sum_blocks _))

include hz hc in
/-- The region leaves the commitment terms of all tokens, summed. -/
theorem ker_8 (i j : Fin 1) : (arr8 m e : Vec Ideal S1x1 .f32) (ix2 i j) = ((∑ n, com (dist z c n) : ℝ) : EReal) :=
  (run_8 m e z c hz hc i j 31 _).trans (congrArg _ (sum_blocks _))

end Cert.Vq.Ker
-- ==== Proof.Match.lean ====
/- The kernel's four results and the reference's four, over the same real arguments: equal. -/
module

public import proofs.«01_k».proof.Proof.KerOut
public import proofs.«01_k».proof.Proof.Gen.KernelIdeal.Run
public import proofs.«01_k».proof.Proof.Gen.KernelIdeal.Read

@[expose] public section

noncomputable section

namespace Cert.Vq.Ker

open Idealize.ShloMosaic Idealize.ShloMosaic.TcCoe Idealize.SL.Sem
open Cert.KernelIdeal Cert.KernelIdeal.Gen

/-- The quantized vectors, reshaped and transposed, agree if the rows agree. -/
theorem suffix_0 (x : Vec Ideal S4096x256 .f32) (z : S4x256x32x32.Idx → ℝ) (c : S8192x256.Idx → ℝ) (g : S4096x8192.Idx → ℝ)
    (h : ∀ (n : Fin 4096) (d : Fin 256), x (ix2 n d) = Cert.ReferenceIdeal.Read.val_main_v33 (F := Ideal) (up z) (up c) (up g) (ix2 n d)) :
    Cert.KernelIdeal.Read.val_main_v0_0 (F := Ideal) x = Cert.ReferenceIdeal.Read.val_main_v61 (F := Ideal) (up z) (up c) (up g) := by
  funext i
  rw [Cert.KernelIdeal.Read.val_main_v0_0_apply, Cert.KernelIdeal.Read.val_main_call0_v19_apply,
    Cert.ReferenceIdeal.Read.val_main_v61_apply, Cert.ReferenceIdeal.Read.val_main_v34_apply]
  generalize Cert.ReferenceIdeal.Read.val_main_v33 (F := Ideal) (up z) (up c) (up g) = w at h
  have hw : x = w := by
    funext j
    obtain ⟨n, d, rfl⟩ : ∃ (n : Fin 4096) (d : Fin 256), j = ix2 n d := ⟨j 0, j 1, eq_ix2 j⟩
    exact h n d
  subst hw
  rfl

/-- The indices, reshaped, agree if the rows agree. -/
theorem suffix_1 (x : Vec Ideal S4096 .i32) (z : S4x256x32x32.Idx → ℝ) (c : S8192x256.Idx → ℝ) (g : S4096x8192.Idx → ℝ)
    (h : ∀ (n : Fin 4096), x (ix1 n) = Cert.ReferenceIdeal.Read.val_main_v31 (F := Ideal) (up z) (up c) (up g) (ix1 n)) :
    Cert.KernelIdeal.Read.val_main_v0_1 (F := Ideal) x = Cert.ReferenceIdeal.Read.val_main_v32 (F := Ideal) (up z) (up c) (up g) := by
  funext i
  rw [Cert.KernelIdeal.Read.val_main_v0_1_apply, Cert.ReferenceIdeal.Read.val_main_v32_apply]
  generalize Cert.ReferenceIdeal.Read.val_main_v31 (F := Ideal) (up z) (up c) (up g) = w at h
  have hw : x = w := by
    funext j
    obtain ⟨n, rfl⟩ : ∃ (n : Fin 4096), j = ix1 n := ⟨j 0, eq_ix1 j⟩
    exact h n
  subst hw
  rfl

/-- A 1 by 1 array divided by four, as a scalar. -/
theorem quarter (x : Vec Ideal S1x1 .f32) (a : ℝ) (h : x (ix2 (0 : Fin 1) (0 : Fin 1)) = (a : EReal)) (j : S_.Idx) :
    Host.divf (shapeCast S_ x shapeCasts_S1x1_S_) (constant (F := Ideal) S_ .f32 0x40800000#32) j = ((a / 4 : ℝ) : EReal) := by
  have e : Host.divf (shapeCast S_ x shapeCasts_S1x1_S_) (constant (F := Ideal) S_ .f32 0x40800000#32) j
      = Ideal.div (shapeCast S_ x shapeCasts_S1x1_S_ j) (Ideal.ofBits .f32 0x40800000#32) := rfl
  have hx : shapeCast S_ x shapeCasts_S1x1_S_ j = (a : EReal) := by
    rw [← h]
    unfold shapeCast
    congr 1
    funext b
    match b with
    | ⟨0, _⟩ => exact Subsingleton.elim (α := Fin 1) _ _
    | ⟨1, _⟩ => exact Subsingleton.elim (α := Fin 1) _ _
  rw [e, hx, bits_four, div_coe_coe _ (by norm_num)]

variable (m : (ℓ : Loc nD τ sig) → Buf (Elt Ideal) ℓ) (e : Dev nD)
variable (z : S4x256x32x32.Idx → ℝ) (c : S8192x256.Idx → ℝ) (g : S4096x8192.Idx → ℝ)
variable (hz : m ((e : Thread nD τ).loc main_arg0) = up z) (hc : m ((e : Thread nD τ).loc main_arg1) = up c)
  (hg : m ((e : Thread nD τ).loc main_arg2) = up g)

include hz hc hg in
/-- The quantized vectors of the two programs. -/
theorem match_0 : transpose S4x256x32x32 [0, 3, 1, 2] (shapeCast S4x32x32x256 (Cert.KernelIdeal.Value.reg_main_call0_v18_0 m e) shapeCasts_S4096x256_S4x32x32x256)
      transposes_S4x32x32x256_S4x256x32x32_0_3_1_2
    = Cert.ReferenceIdeal.Read.val_main_v61 (F := Ideal) (up z) (up c) (up g) := by
  have hr : Cert.KernelIdeal.Value.reg_main_call0_v18_0 m e
      = arr5 e fun n d => (((∑ k, wt (noisy z c g n) k * c (ix2 k d)) / ∑ k, wt (noisy z c g n) k : ℝ) : EReal) := ker_5 m e z c g hz hc hg
  rw [hr]
  exact suffix_0 _ z c g fun n d => (ref_v33 z c g n d).symm

include hz hc hg in
/-- The indices of the two programs. -/
theorem match_1 : shapeCast S4x32x32 (Cert.KernelIdeal.Value.reg_main_call0_v18_1 m e) shapeCasts_S4096_S4x32x32
    = Cert.ReferenceIdeal.Read.val_main_v32 (F := Ideal) (up z) (up c) (up g) := by
  have hr : Cert.KernelIdeal.Value.reg_main_call0_v18_1 m e = arr6 e fun n => BitVec.ofNat 32 (first (noisy z c g n)).val := ker_6 m e z c g hz hc hg
  rw [hr]
  exact suffix_1 _ z c g fun n => (ref_v31 z c g n).symm

include hz hc in
/-- The KL results of the two programs. -/
theorem match_2 : Host.divf (shapeCast S_ (Cert.KernelIdeal.Value.reg_main_call0_v18_2 m e) shapeCasts_S1x1_S_) (constant (F := Ideal) S_ .f32 0x40800000#32)
    = Cert.ReferenceIdeal.Read.val_main_v54 (F := Ideal) (up z) (up c) := by
  have hr : Cert.KernelIdeal.Value.reg_main_call0_v18_2 m e = arr7 m e := final_7 m e
  have h := ker_7 m e z c hz hc 0 0
  rw [hr]
  generalize arr7 m e = y at h
  funext j
  exact (quarter y _ h j).trans (ref_v54 z c j).symm

include hz hc in
/-- The commitment results of the two programs. -/
theorem match_3 : Host.divf (shapeCast S_ (Cert.KernelIdeal.Value.reg_main_call0_v18_3 m e) shapeCasts_S1x1_S_) (constant (F := Ideal) S_ .f32 0x40800000#32)
    = Cert.ReferenceIdeal.Read.val_main_v60 (F := Ideal) (up z) (up c) := by
  have hr : Cert.KernelIdeal.Value.reg_main_call0_v18_3 m e = arr8 m e := final_8 m e
  have h := ker_8 m e z c hz hc 0 0
  rw [hr]
  generalize arr8 m e = y at h
  funext j
  exact (quarter y _ h j).trans (ref_v60 z c j).symm

end Cert.Vq.Ker
-- ==== Proof.Finite.lean ====
/- The precondition read: arguments of which it holds are arrays of real numbers. -/
module

public import proofs.«01_k».proof.Pre_finite
public import proofs.«01_k».proof.Proof.Spec
public import Idealize.ShloMosaic.Lib.IdealHost

@[expose] public section

noncomputable section

namespace Cert.Vq.Fin

open Idealize.ShloMosaic Cert.Pre_finite

/-- The shape relations the precondition takes. -/
theorem facts : Cert.Pre_finite.Facts where
  bcast_S_S4x256x32x32 := by decide
  bcast_S_S8192x256 := by decide
  bcast_S_S4096x8192 := by decide

theorem bits_top : Ideal.ofBits .f32 0x7F800000#32 = (⊤ : EReal) := by
  simp [Ideal.ofBits, Ideal.ieee]

theorem real_of_lt (x : EReal) (h : Ideal.cmp .olt (max x (-x)) ⊤ = 1#1) : x = ((x.toReal : ℝ) : EReal) := by
  have hlt : max x (-x) < ⊤ := by
    by_contra hn
    rw [Ideal.cmp] at h
    simp [hn] at h
  refine (EReal.coe_toReal ?_ ?_).symm
  · rintro rfl
    simp at hlt
  · rintro rfl
    simp at hlt

/-- An array whose absolute values compare below infinity everywhere is an array of reals. -/
theorem real_array {S : Shape} (h : S_.BroadcastsInDim S (![] : Fin 0 → Fin S.rank)) (x : FVec Ideal S .f32)
    (hx : cmpf .olt (Host.absf x) (broadcastInDim S ![] h (constant S_ .f32 0x7F800000#32)) = (fun _ => 1#1 : IVec S 1)) :
    x = fun i => (((x i : EReal).toReal : ℝ) : EReal) := by
  funext i
  have hi := congrFun hx i
  have e : cmpf .olt (Host.absf x) (broadcastInDim S ![] h (constant (F := Ideal) S_ .f32 0x7F800000#32)) i
      = Ideal.cmp .olt (max (x i : EReal) (-(x i : EReal))) (broadcastInDim S ![] h (constant (F := Ideal) S_ .f32 0x7F800000#32) i) := rfl
  have hb : broadcastInDim S ![] h (constant (F := Ideal) S_ .f32 0x7F800000#32) i = (⊤ : EReal) :=
    (Idealize.ShloMosaic.ValueIdx.broadcastInDim_scalar_apply h _ i).trans bits_top
  rw [e, hb] at hi
  exact real_of_lt _ hi

variable [Cert.Pre_finite.Facts] (x : FVec Ideal S4x256x32x32 .f32) (y : FVec Ideal S8192x256 .f32) (g : FVec Ideal S4096x8192 .f32)

/-- The precondition makes each of the three arguments an array of reals. -/
theorem real_args (h : (fn (F := Ideal) x y g).1 = (fun _ => 1#1) ∧ (fn (F := Ideal) x y g).2.1 = (fun _ => 1#1) ∧ (fn (F := Ideal) x y g).2.2 = (fun _ => 1#1)) :
    (∃ a : S4x256x32x32.Idx → ℝ, x = fun i => (a i : EReal)) ∧ (∃ b : S8192x256.Idx → ℝ, y = fun i => (b i : EReal))
      ∧ ∃ d : S4096x8192.Idx → ℝ, g = fun i => (d i : EReal) :=
  ⟨⟨_, real_array Facts.bcast_S_S4x256x32x32 x h.1⟩, ⟨_, real_array Facts.bcast_S_S8192x256 y h.2.1⟩, ⟨_, real_array Facts.bcast_S_S4096x8192 g h.2.2⟩⟩

end Cert.Vq.Fin
-- ==== Proof.lean ====
/- The claims about the fused VQ-codebook kernel: every program runs to the end, with its arguments
   unchanged and every counter at zero, and over real arguments the kernel's four results are the
   reference's four. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Run
public import proofs.«01_k».proof.Proof.Gen.KernelIdeal.Read
public import proofs.«01_k».proof.Proof.RefRun
public import proofs.«01_k».proof.Proof.RefValue
public import proofs.«01_k».proof.Proof.Match
public import proofs.«01_k».proof.Proof.Finite
public import Idealize.ShloMosaic.Adequacy
public import Idealize.ShloMosaic.Init

@[expose] public section

noncomputable section

namespace Cert.Proof

open Idealize.ShloMosaic Idealize.SL.Sem

/-- The reference runs, leaves its arguments unchanged, and declares no semaphore. -/
theorem frame_r (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono (fun r h => ⟨fun c => (h c).2.2.2.2, sem_eq_zero_of_no_sems (by decide) r.2⟩)
    (Cert.ReferenceIdeal.Value.run (F := Ideal) m g)

variable (m : (ℓ : Loc Cert.KernelIdeal.nD Cert.KernelIdeal.τ Cert.KernelIdeal.sig) → Buf (Elt Ideal) ℓ)

/-- The kernel's argument 0 on a device. -/
abbrev a0 (e : Dev Cert.KernelIdeal.nD) : Vec Ideal Cert.KernelIdeal.S4x256x32x32 .f32 := m ((e.tc : Thread Cert.KernelIdeal.nD Cert.KernelIdeal.τ).loc Cert.KernelIdeal.main_arg0)
/-- The kernel's argument 1 on a device. -/
abbrev a1 (e : Dev Cert.KernelIdeal.nD) : Vec Ideal Cert.KernelIdeal.S8192x256 .f32 := m ((e.tc : Thread Cert.KernelIdeal.nD Cert.KernelIdeal.τ).loc Cert.KernelIdeal.main_arg1)
/-- The kernel's argument 2 on a device. -/
abbrev a2 (e : Dev Cert.KernelIdeal.nD) : Vec Ideal Cert.KernelIdeal.S4096x8192 .f32 := m ((e.tc : Thread Cert.KernelIdeal.nD Cert.KernelIdeal.τ).loc Cert.KernelIdeal.main_arg2)

/-- Where the precondition holds, each of the kernel's results is the reference's term of the kernel's own arguments. -/
theorem agree (h : Cert.Pre_KernelIdeal_finite (hPre_finite := Cert.Vq.Fin.facts) m) (e : Dev Cert.KernelIdeal.nD) :
    transpose Cert.KernelIdeal.S4x256x32x32 [0, 3, 1, 2] (shapeCast Cert.KernelIdeal.S4x32x32x256 (Cert.KernelIdeal.Value.reg_main_call0_v18_0 m e) Cert.KernelIdeal.Gen.shapeCasts_S4096x256_S4x32x32x256)
        Cert.KernelIdeal.Gen.transposes_S4x32x32x256_S4x256x32x32_0_3_1_2
      = Cert.ReferenceIdeal.Read.val_main_v61 (F := Ideal) (a0 m e) (a1 m e) (a2 m e)
    ∧ shapeCast Cert.KernelIdeal.S4x32x32 (Cert.KernelIdeal.Value.reg_main_call0_v18_1 m e) Cert.KernelIdeal.Gen.shapeCasts_S4096_S4x32x32
      = Cert.ReferenceIdeal.Read.val_main_v32 (F := Ideal) (a0 m e) (a1 m e) (a2 m e)
    ∧ Host.divf (shapeCast Cert.KernelIdeal.S_ (Cert.KernelIdeal.Value.reg_main_call0_v18_2 m e) Cert.KernelIdeal.Gen.shapeCasts_S1x1_S_) (constant (F := Ideal) Cert.KernelIdeal.S_ .f32 0x40800000#32)
      = Cert.ReferenceIdeal.Read.val_main_v54 (F := Ideal) (a0 m e) (a1 m e)
    ∧ Host.divf (shapeCast Cert.KernelIdeal.S_ (Cert.KernelIdeal.Value.reg_main_call0_v18_3 m e) Cert.KernelIdeal.Gen.shapeCasts_S1x1_S_) (constant (F := Ideal) Cert.KernelIdeal.S_ .f32 0x40800000#32)
      = Cert.ReferenceIdeal.Read.val_main_v60 (F := Ideal) (a0 m e) (a1 m e) := by
  obtain ⟨⟨z, hz⟩, ⟨c, hc⟩, ⟨g, hg⟩⟩ := @Cert.Vq.Fin.real_args Cert.Vq.Fin.facts (a0 m e) (a1 m e) (a2 m e) (h e)
  have h0 := Cert.Vq.Ker.match_0 m e z c g hz hc hg
  have h1 := Cert.Vq.Ker.match_1 m e z c g hz hc hg
  have h2 := Cert.Vq.Ker.match_2 m e z c hz hc
  have h3 := Cert.Vq.Ker.match_3 m e z c hz hc
  rw [hz, hc, hg]
  exact ⟨h0, h1, h2, h3⟩

/-- Over real arguments the kernel's four results are the reference's four. -/
theorem algebraic : Cert.algebraic_KernelIdeal_ReferenceIdeal_pre_finite (hKernelIdeal := Cert.KernelIdeal.Gen.facts) (hReferenceIdeal := Cert.ReferenceIdeal.Gen.facts) (hPre_finite := Cert.Vq.Fin.facts) := by
  intro m g m' g' hp ha
  refine ⟨fun e => Cert.ReferenceIdeal.Read.val_main_v61 (F := Ideal) (a0 m e) (a1 m e) (a2 m e), fun e => Cert.ReferenceIdeal.Read.val_main_v32 (F := Ideal) (a0 m e) (a1 m e) (a2 m e),
    fun e => Cert.ReferenceIdeal.Read.val_main_v54 (F := Ideal) (a0 m e) (a1 m e), fun e => Cert.ReferenceIdeal.Read.val_main_v60 (F := Ideal) (a0 m e) (a1 m e), ?_, ?_⟩
  · exact (θ_run Cert.KernelIdeal.defs _ _).mono (fun r h e => ⟨(h e).1.trans (agree m hp e).1, (h e).2.1.trans (agree m hp e).2.1,
      (h e).2.2.1.trans (agree m hp e).2.2.1, (h e).2.2.2.1.trans (agree m hp e).2.2.2, (h e).2.2.2.2⟩) (Cert.KernelIdeal.Value.run (F := Ideal) m g)
  · refine (θ_run Cert.ReferenceIdeal.defs _ _).mono (fun r h e => ?_) (Cert.ReferenceIdeal.Value.run (F := Ideal) m' g')
    obtain ⟨h0, h1, h2, h3, h4⟩ := h e
    rw [(ha e).1, (ha e).2.1, (ha e).2.2] at h0 h1
    rw [(ha e).1, (ha e).2.1] at h2 h3
    exact ⟨h0, h1, h2, h3, h4⟩

/-- Every claim of the certificate. -/
theorem claim : Cert.Claim := ⟨Cert.Kernel.Gen.facts, Cert.KernelIdeal.Gen.facts, Cert.ReferenceIdeal.Gen.facts, Cert.Vq.Fin.facts,
  fun m g _ => Cert.Kernel.Gen.frame m g, fun m g _ => Cert.KernelIdeal.Gen.frame m g, fun m g _ => Cert.KernelIdeal.Gen.frame m g,
  fun m g _ => frame_r m g, fun m g _ => frame_r m g, trivial, algebraic⟩

end Cert.Proof

end
